-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩
abbrev S1024x256x128 : Shape := ⟨3, ![1024, 256, 128]⟩
abbrev S1024x8x128 : Shape := ⟨3, ![1024, 8, 128]⟩
abbrev S8x1024x128 : Shape := ⟨3, ![8, 1024, 128]⟩
abbrev S31x32x1024 : Shape := ⟨3, ![31, 32, 1024]⟩
abbrev S31 : Shape := ⟨1, ![31]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 38
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x256x128, .f32⟩
  | .hbm, ⟨3, _⟩ => ⟨S1x1024x256x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x256x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .f32⟩
  | .hbm, ⟨23, _⟩ => ⟨S1024x256x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .f32⟩
  | .hbm, ⟨34, _⟩ => ⟨S8x1024x128, .f32⟩
  | .hbm, ⟨35, _⟩ => ⟨S8x1024x128, .f32⟩
  | .hbm, ⟨36, _⟩ => ⟨S1024x1024, .f32⟩
  | .hbm, ⟨37, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .f32⟩
  | .local _ .vmem, ⟨3, _⟩ => ⟨S8x1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S31x32x1024, .f32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_272 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v401 : BitVec 32 := Scalar.addi v2 c1_i32_272
  let c32_i32_273 : BitVec 32 := 32#32
  let v402 : BitVec 32 := Scalar.remsi v401 c32_i32_273
  let c32_i32_274 : BitVec 32 := 32#32
  let v403 : BitVec 32 := Scalar.muli v402 c32_i32_274
  let c0_i32_282 : BitVec 32 := 0#32
  ![v403.toNat, 0]
def k0_dev32 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_272 : BitVec 32 := 1#32
  let v401 : BitVec 32 := Scalar.addi v2 c1_i32_272
  let c32_i32_273 : BitVec 32 := 32#32
  let v402 : BitVec 32 := Scalar.remsi v401 c32_i32_273
  let c1_i32_278 : BitVec 32 := 1#32
  let v404 : BitVec 32 := Scalar.muli v402 c1_i32_278
  let v405 : BitVec 32 := Scalar.addi c0_i32_279 v404
  v405.toNat
def k0_dev33 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_283 : BitVec 32 := 2#32
  let v413 : BitVec 32 := Scalar.addi v2 c2_i32_283
  let c32_i32_284 : BitVec 32 := 32#32
  let v414 : BitVec 32 := Scalar.remsi v413 c32_i32_284
  let c1_i32_289 : BitVec 32 := 1#32
  let v416 : BitVec 32 := Scalar.muli v414 c1_i32_289
  let v417 : BitVec 32 := Scalar.addi c0_i32_290 v416
  v417.toNat
def k0_dev34 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_294 : BitVec 32 := 3#32
  let v425 : BitVec 32 := Scalar.addi v2 c3_i32_294
  let c32_i32_295 : BitVec 32 := 32#32
  let v426 : BitVec 32 := Scalar.remsi v425 c32_i32_295
  let c1_i32_300 : BitVec 32 := 1#32
  let v428 : BitVec 32 := Scalar.muli v426 c1_i32_300
  let v429 : BitVec 32 := Scalar.addi c0_i32_301 v428
  v429.toNat
def k0_dev35 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_305 : BitVec 32 := 4#32
  let v437 : BitVec 32 := Scalar.addi v2 c4_i32_305
  let c32_i32_306 : BitVec 32 := 32#32
  let v438 : BitVec 32 := Scalar.remsi v437 c32_i32_306
  let c1_i32_311 : BitVec 32 := 1#32
  let v440 : BitVec 32 := Scalar.muli v438 c1_i32_311
  let v441 : BitVec 32 := Scalar.addi c0_i32_312 v440
  v441.toNat
def k0_dev36 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_316 : BitVec 32 := 5#32
  let v449 : BitVec 32 := Scalar.addi v2 c5_i32_316
  let c32_i32_317 : BitVec 32 := 32#32
  let v450 : BitVec 32 := Scalar.remsi v449 c32_i32_317
  let c1_i32_322 : BitVec 32 := 1#32
  let v452 : BitVec 32 := Scalar.muli v450 c1_i32_322
  let v453 : BitVec 32 := Scalar.addi c0_i32_323 v452
  v453.toNat
def k0_dev37 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_327 : BitVec 32 := 6#32
  let v461 : BitVec 32 := Scalar.addi v2 c6_i32_327
  let c32_i32_328 : BitVec 32 := 32#32
  let v462 : BitVec 32 := Scalar.remsi v461 c32_i32_328
  let c1_i32_333 : BitVec 32 := 1#32
  let v464 : BitVec 32 := Scalar.muli v462 c1_i32_333
  let v465 : BitVec 32 := Scalar.addi c0_i32_334 v464
  v465.toNat
def k0_dev38 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_338 : BitVec 32 := 7#32
  let v473 : BitVec 32 := Scalar.addi v2 c7_i32_338
  let c32_i32_339 : BitVec 32 := 32#32
  let v474 : BitVec 32 := Scalar.remsi v473 c32_i32_339
  let c1_i32_344 : BitVec 32 := 1#32
  let v476 : BitVec 32 := Scalar.muli v474 c1_i32_344
  let v477 : BitVec 32 := Scalar.addi c0_i32_345 v476
  v477.toNat
def k0_dev39 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_349 : BitVec 32 := 8#32
  let v485 : BitVec 32 := Scalar.addi v2 c8_i32_349
  let c32_i32_350 : BitVec 32 := 32#32
  let v486 : BitVec 32 := Scalar.remsi v485 c32_i32_350
  let c1_i32_355 : BitVec 32 := 1#32
  let v488 : BitVec 32 := Scalar.muli v486 c1_i32_355
  let v489 : BitVec 32 := Scalar.addi c0_i32_356 v488
  v489.toNat
def k0_dev40 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_360 : BitVec 32 := 9#32
  let v497 : BitVec 32 := Scalar.addi v2 c9_i32_360
  let c32_i32_361 : BitVec 32 := 32#32
  let v498 : BitVec 32 := Scalar.remsi v497 c32_i32_361
  let c1_i32_366 : BitVec 32 := 1#32
  let v500 : BitVec 32 := Scalar.muli v498 c1_i32_366
  let v501 : BitVec 32 := Scalar.addi c0_i32_367 v500
  v501.toNat
def k0_dev41 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_371 : BitVec 32 := 10#32
  let v509 : BitVec 32 := Scalar.addi v2 c10_i32_371
  let c32_i32_372 : BitVec 32 := 32#32
  let v510 : BitVec 32 := Scalar.remsi v509 c32_i32_372
  let c1_i32_377 : BitVec 32 := 1#32
  let v512 : BitVec 32 := Scalar.muli v510 c1_i32_377
  let v513 : BitVec 32 := Scalar.addi c0_i32_378 v512
  v513.toNat
def k0_dev42 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_382 : BitVec 32 := 11#32
  let v521 : BitVec 32 := Scalar.addi v2 c11_i32_382
  let c32_i32_383 : BitVec 32 := 32#32
  let v522 : BitVec 32 := Scalar.remsi v521 c32_i32_383
  let c1_i32_388 : BitVec 32 := 1#32
  let v524 : BitVec 32 := Scalar.muli v522 c1_i32_388
  let v525 : BitVec 32 := Scalar.addi c0_i32_389 v524
  v525.toNat
def k0_dev43 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_393 : BitVec 32 := 12#32
  let v533 : BitVec 32 := Scalar.addi v2 c12_i32_393
  let c32_i32_394 : BitVec 32 := 32#32
  let v534 : BitVec 32 := Scalar.remsi v533 c32_i32_394
  let c1_i32_399 : BitVec 32 := 1#32
  let v536 : BitVec 32 := Scalar.muli v534 c1_i32_399
  let v537 : BitVec 32 := Scalar.addi c0_i32_400 v536
  v537.toNat
def k0_dev44 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_404 : BitVec 32 := 13#32
  let v545 : BitVec 32 := Scalar.addi v2 c13_i32_404
  let c32_i32_405 : BitVec 32 := 32#32
  let v546 : BitVec 32 := Scalar.remsi v545 c32_i32_405
  let c1_i32_410 : BitVec 32 := 1#32
  let v548 : BitVec 32 := Scalar.muli v546 c1_i32_410
  let v549 : BitVec 32 := Scalar.addi c0_i32_411 v548
  v549.toNat
def k0_dev45 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_415 : BitVec 32 := 14#32
  let v557 : BitVec 32 := Scalar.addi v2 c14_i32_415
  let c32_i32_416 : BitVec 32 := 32#32
  let v558 : BitVec 32 := Scalar.remsi v557 c32_i32_416
  let c1_i32_421 : BitVec 32 := 1#32
  let v560 : BitVec 32 := Scalar.muli v558 c1_i32_421
  let v561 : BitVec 32 := Scalar.addi c0_i32_422 v560
  v561.toNat
def k0_dev46 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_426 : BitVec 32 := 15#32
  let v569 : BitVec 32 := Scalar.addi v2 c15_i32_426
  let c32_i32_427 : BitVec 32 := 32#32
  let v570 : BitVec 32 := Scalar.remsi v569 c32_i32_427
  let c1_i32_432 : BitVec 32 := 1#32
  let v572 : BitVec 32 := Scalar.muli v570 c1_i32_432
  let v573 : BitVec 32 := Scalar.addi c0_i32_433 v572
  v573.toNat
def k0_dev47 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_437 : BitVec 32 := 16#32
  let v581 : BitVec 32 := Scalar.addi v2 c16_i32_437
  let c32_i32_438 : BitVec 32 := 32#32
  let v582 : BitVec 32 := Scalar.remsi v581 c32_i32_438
  let c1_i32_443 : BitVec 32 := 1#32
  let v584 : BitVec 32 := Scalar.muli v582 c1_i32_443
  let v585 : BitVec 32 := Scalar.addi c0_i32_444 v584
  v585.toNat
def k0_dev48 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_448 : BitVec 32 := 17#32
  let v593 : BitVec 32 := Scalar.addi v2 c17_i32_448
  let c32_i32_449 : BitVec 32 := 32#32
  let v594 : BitVec 32 := Scalar.remsi v593 c32_i32_449
  let c1_i32_454 : BitVec 32 := 1#32
  let v596 : BitVec 32 := Scalar.muli v594 c1_i32_454
  let v597 : BitVec 32 := Scalar.addi c0_i32_455 v596
  v597.toNat
def k0_dev49 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_459 : BitVec 32 := 18#32
  let v605 : BitVec 32 := Scalar.addi v2 c18_i32_459
  let c32_i32_460 : BitVec 32 := 32#32
  let v606 : BitVec 32 := Scalar.remsi v605 c32_i32_460
  let c1_i32_465 : BitVec 32 := 1#32
  let v608 : BitVec 32 := Scalar.muli v606 c1_i32_465
  let v609 : BitVec 32 := Scalar.addi c0_i32_466 v608
  v609.toNat
def k0_dev50 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v617 : BitVec 32 := Scalar.addi v2 c19_i32_470
  let c32_i32_471 : BitVec 32 := 32#32
  let v618 : BitVec 32 := Scalar.remsi v617 c32_i32_471
  let c1_i32_476 : BitVec 32 := 1#32
  let v620 : BitVec 32 := Scalar.muli v618 c1_i32_476
  let v621 : BitVec 32 := Scalar.addi c0_i32_477 v620
  v621.toNat
def k0_dev51 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_481 : BitVec 32 := 20#32
  let v629 : BitVec 32 := Scalar.addi v2 c20_i32_481
  let c32_i32_482 : BitVec 32 := 32#32
  let v630 : BitVec 32 := Scalar.remsi v629 c32_i32_482
  let c1_i32_487 : BitVec 32 := 1#32
  let v632 : BitVec 32 := Scalar.muli v630 c1_i32_487
  let v633 : BitVec 32 := Scalar.addi c0_i32_488 v632
  v633.toNat
def k0_dev52 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_492 : BitVec 32 := 21#32
  let v641 : BitVec 32 := Scalar.addi v2 c21_i32_492
  let c32_i32_493 : BitVec 32 := 32#32
  let v642 : BitVec 32 := Scalar.remsi v641 c32_i32_493
  let c1_i32_498 : BitVec 32 := 1#32
  let v644 : BitVec 32 := Scalar.muli v642 c1_i32_498
  let v645 : BitVec 32 := Scalar.addi c0_i32_499 v644
  v645.toNat
def k0_dev53 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_503 : BitVec 32 := 22#32
  let v653 : BitVec 32 := Scalar.addi v2 c22_i32_503
  let c32_i32_504 : BitVec 32 := 32#32
  let v654 : BitVec 32 := Scalar.remsi v653 c32_i32_504
  let c1_i32_509 : BitVec 32 := 1#32
  let v656 : BitVec 32 := Scalar.muli v654 c1_i32_509
  let v657 : BitVec 32 := Scalar.addi c0_i32_510 v656
  v657.toNat
def k0_dev54 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_514 : BitVec 32 := 23#32
  let v665 : BitVec 32 := Scalar.addi v2 c23_i32_514
  let c32_i32_515 : BitVec 32 := 32#32
  let v666 : BitVec 32 := Scalar.remsi v665 c32_i32_515
  let c1_i32_520 : BitVec 32 := 1#32
  let v668 : BitVec 32 := Scalar.muli v666 c1_i32_520
  let v669 : BitVec 32 := Scalar.addi c0_i32_521 v668
  v669.toNat
def k0_dev55 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_525 : BitVec 32 := 24#32
  let v677 : BitVec 32 := Scalar.addi v2 c24_i32_525
  let c32_i32_526 : BitVec 32 := 32#32
  let v678 : BitVec 32 := Scalar.remsi v677 c32_i32_526
  let c1_i32_531 : BitVec 32 := 1#32
  let v680 : BitVec 32 := Scalar.muli v678 c1_i32_531
  let v681 : BitVec 32 := Scalar.addi c0_i32_532 v680
  v681.toNat
def k0_dev56 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_536 : BitVec 32 := 25#32
  let v689 : BitVec 32 := Scalar.addi v2 c25_i32_536
  let c32_i32_537 : BitVec 32 := 32#32
  let v690 : BitVec 32 := Scalar.remsi v689 c32_i32_537
  let c1_i32_542 : BitVec 32 := 1#32
  let v692 : BitVec 32 := Scalar.muli v690 c1_i32_542
  let v693 : BitVec 32 := Scalar.addi c0_i32_543 v692
  v693.toNat
def k0_dev57 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_547 : BitVec 32 := 26#32
  let v701 : BitVec 32 := Scalar.addi v2 c26_i32_547
  let c32_i32_548 : BitVec 32 := 32#32
  let v702 : BitVec 32 := Scalar.remsi v701 c32_i32_548
  let c1_i32_553 : BitVec 32 := 1#32
  let v704 : BitVec 32 := Scalar.muli v702 c1_i32_553
  let v705 : BitVec 32 := Scalar.addi c0_i32_554 v704
  v705.toNat
def k0_dev58 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_558 : BitVec 32 := 27#32
  let v713 : BitVec 32 := Scalar.addi v2 c27_i32_558
  let c32_i32_559 : BitVec 32 := 32#32
  let v714 : BitVec 32 := Scalar.remsi v713 c32_i32_559
  let c1_i32_564 : BitVec 32 := 1#32
  let v716 : BitVec 32 := Scalar.muli v714 c1_i32_564
  let v717 : BitVec 32 := Scalar.addi c0_i32_565 v716
  v717.toNat
def k0_dev59 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_569 : BitVec 32 := 28#32
  let v725 : BitVec 32 := Scalar.addi v2 c28_i32_569
  let c32_i32_570 : BitVec 32 := 32#32
  let v726 : BitVec 32 := Scalar.remsi v725 c32_i32_570
  let c1_i32_575 : BitVec 32 := 1#32
  let v728 : BitVec 32 := Scalar.muli v726 c1_i32_575
  let v729 : BitVec 32 := Scalar.addi c0_i32_576 v728
  v729.toNat
def k0_dev60 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_580 : BitVec 32 := 29#32
  let v737 : BitVec 32 := Scalar.addi v2 c29_i32_580
  let c32_i32_581 : BitVec 32 := 32#32
  let v738 : BitVec 32 := Scalar.remsi v737 c32_i32_581
  let c1_i32_586 : BitVec 32 := 1#32
  let v740 : BitVec 32 := Scalar.muli v738 c1_i32_586
  let v741 : BitVec 32 := Scalar.addi c0_i32_587 v740
  v741.toNat
def k0_dev61 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_591 : BitVec 32 := 30#32
  let v749 : BitVec 32 := Scalar.addi v2 c30_i32_591
  let c32_i32_592 : BitVec 32 := 32#32
  let v750 : BitVec 32 := Scalar.remsi v749 c32_i32_592
  let c1_i32_597 : BitVec 32 := 1#32
  let v752 : BitVec 32 := Scalar.muli v750 c1_i32_597
  let v753 : BitVec 32 := Scalar.addi c0_i32_598 v752
  v753.toNat
def k0_dev62 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_602 : BitVec 32 := 31#32
  let v761 : BitVec 32 := Scalar.addi v2 c31_i32_602
  let c32_i32_603 : BitVec 32 := 32#32
  let v762 : BitVec 32 := Scalar.remsi v761 c32_i32_603
  let c1_i32_608 : BitVec 32 := 1#32
  let v764 : BitVec 32 := Scalar.muli v762 c1_i32_608
  let v765 : BitVec 32 := Scalar.addi c0_i32_609 v764
  v765.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_923 : BitVec 32 := 32#32
  let v1021 : BitVec 32 := Scalar.muli v2 c32_i32_923
  let v1022 : Index := Scalar.indexCast v1021
  let c0_924 : Index := 0#32
  ![v1022.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_923 : BitVec 32 := 32#32
  let v1021 : BitVec 32 := Scalar.muli v2 c32_i32_923
  let c0_i32_936 : BitVec 32 := 0#32
  ![v1021.toNat, 0]
def k0_dev63 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_930 : BitVec 32 := 1#32
  let v1029 : BitVec 32 := Scalar.addi v2 c1_i32_930
  let c32_i32_931 : BitVec 32 := 32#32
  let v1030 : BitVec 32 := Scalar.remsi v1029 c32_i32_931
  let c1_i32_934 : BitVec 32 := 1#32
  let v1031 : BitVec 32 := Scalar.muli v1030 c1_i32_934
  let v1032 : BitVec 32 := Scalar.addi c0_i32_935 v1031
  v1032.toNat
def k0_dev64 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_938 : BitVec 32 := 2#32
  let v1039 : BitVec 32 := Scalar.addi v2 c2_i32_938
  let c32_i32_939 : BitVec 32 := 32#32
  let v1040 : BitVec 32 := Scalar.remsi v1039 c32_i32_939
  let c1_i32_942 : BitVec 32 := 1#32
  let v1041 : BitVec 32 := Scalar.muli v1040 c1_i32_942
  let v1042 : BitVec 32 := Scalar.addi c0_i32_943 v1041
  v1042.toNat
def k0_dev65 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_946 : BitVec 32 := 3#32
  let v1049 : BitVec 32 := Scalar.addi v2 c3_i32_946
  let c32_i32_947 : BitVec 32 := 32#32
  let v1050 : BitVec 32 := Scalar.remsi v1049 c32_i32_947
  let c1_i32_950 : BitVec 32 := 1#32
  let v1051 : BitVec 32 := Scalar.muli v1050 c1_i32_950
  let v1052 : BitVec 32 := Scalar.addi c0_i32_951 v1051
  v1052.toNat
def k0_dev66 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_954 : BitVec 32 := 4#32
  let v1059 : BitVec 32 := Scalar.addi v2 c4_i32_954
  let c32_i32_955 : BitVec 32 := 32#32
  let v1060 : BitVec 32 := Scalar.remsi v1059 c32_i32_955
  let c1_i32_958 : BitVec 32 := 1#32
  let v1061 : BitVec 32 := Scalar.muli v1060 c1_i32_958
  let v1062 : BitVec 32 := Scalar.addi c0_i32_959 v1061
  v1062.toNat
def k0_dev67 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_962 : BitVec 32 := 5#32
  let v1069 : BitVec 32 := Scalar.addi v2 c5_i32_962
  let c32_i32_963 : BitVec 32 := 32#32
  let v1070 : BitVec 32 := Scalar.remsi v1069 c32_i32_963
  let c1_i32_966 : BitVec 32 := 1#32
  let v1071 : BitVec 32 := Scalar.muli v1070 c1_i32_966
  let v1072 : BitVec 32 := Scalar.addi c0_i32_967 v1071
  v1072.toNat
def k0_dev68 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_970 : BitVec 32 := 6#32
  let v1079 : BitVec 32 := Scalar.addi v2 c6_i32_970
  let c32_i32_971 : BitVec 32 := 32#32
  let v1080 : BitVec 32 := Scalar.remsi v1079 c32_i32_971
  let c1_i32_974 : BitVec 32 := 1#32
  let v1081 : BitVec 32 := Scalar.muli v1080 c1_i32_974
  let v1082 : BitVec 32 := Scalar.addi c0_i32_975 v1081
  v1082.toNat
def k0_dev69 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_978 : BitVec 32 := 7#32
  let v1089 : BitVec 32 := Scalar.addi v2 c7_i32_978
  let c32_i32_979 : BitVec 32 := 32#32
  let v1090 : BitVec 32 := Scalar.remsi v1089 c32_i32_979
  let c1_i32_982 : BitVec 32 := 1#32
  let v1091 : BitVec 32 := Scalar.muli v1090 c1_i32_982
  let v1092 : BitVec 32 := Scalar.addi c0_i32_983 v1091
  v1092.toNat
def k0_dev70 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_986 : BitVec 32 := 8#32
  let v1099 : BitVec 32 := Scalar.addi v2 c8_i32_986
  let c32_i32_987 : BitVec 32 := 32#32
  let v1100 : BitVec 32 := Scalar.remsi v1099 c32_i32_987
  let c1_i32_990 : BitVec 32 := 1#32
  let v1101 : BitVec 32 := Scalar.muli v1100 c1_i32_990
  let v1102 : BitVec 32 := Scalar.addi c0_i32_991 v1101
  v1102.toNat
def k0_dev71 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_994 : BitVec 32 := 9#32
  let v1109 : BitVec 32 := Scalar.addi v2 c9_i32_994
  let c32_i32_995 : BitVec 32 := 32#32
  let v1110 : BitVec 32 := Scalar.remsi v1109 c32_i32_995
  let c1_i32_998 : BitVec 32 := 1#32
  let v1111 : BitVec 32 := Scalar.muli v1110 c1_i32_998
  let v1112 : BitVec 32 := Scalar.addi c0_i32_999 v1111
  v1112.toNat
def k0_dev72 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1002 : BitVec 32 := 10#32
  let v1119 : BitVec 32 := Scalar.addi v2 c10_i32_1002
  let c32_i32_1003 : BitVec 32 := 32#32
  let v1120 : BitVec 32 := Scalar.remsi v1119 c32_i32_1003
  let c1_i32_1006 : BitVec 32 := 1#32
  let v1121 : BitVec 32 := Scalar.muli v1120 c1_i32_1006
  let v1122 : BitVec 32 := Scalar.addi c0_i32_1007 v1121
  v1122.toNat
def k0_dev73 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1010 : BitVec 32 := 11#32
  let v1129 : BitVec 32 := Scalar.addi v2 c11_i32_1010
  let c32_i32_1011 : BitVec 32 := 32#32
  let v1130 : BitVec 32 := Scalar.remsi v1129 c32_i32_1011
  let c1_i32_1014 : BitVec 32 := 1#32
  let v1131 : BitVec 32 := Scalar.muli v1130 c1_i32_1014
  let v1132 : BitVec 32 := Scalar.addi c0_i32_1015 v1131
  v1132.toNat
def k0_dev74 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1018 : BitVec 32 := 12#32
  let v1139 : BitVec 32 := Scalar.addi v2 c12_i32_1018
  let c32_i32_1019 : BitVec 32 := 32#32
  let v1140 : BitVec 32 := Scalar.remsi v1139 c32_i32_1019
  let c1_i32_1022 : BitVec 32 := 1#32
  let v1141 : BitVec 32 := Scalar.muli v1140 c1_i32_1022
  let v1142 : BitVec 32 := Scalar.addi c0_i32_1023 v1141
  v1142.toNat
def k0_dev75 (d0 : Dev nD) : Nat :=
  let c0_i32_1031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1026 : BitVec 32 := 13#32
  let v1149 : BitVec 32 := Scalar.addi v2 c13_i32_1026
  let c32_i32_1027 : BitVec 32 := 32#32
  let v1150 : BitVec 32 := Scalar.remsi v1149 c32_i32_1027
  let c1_i32_1030 : BitVec 32 := 1#32
  let v1151 : BitVec 32 := Scalar.muli v1150 c1_i32_1030
  let v1152 : BitVec 32 := Scalar.addi c0_i32_1031 v1151
  v1152.toNat
def k0_dev76 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1034 : BitVec 32 := 14#32
  let v1159 : BitVec 32 := Scalar.addi v2 c14_i32_1034
  let c32_i32_1035 : BitVec 32 := 32#32
  let v1160 : BitVec 32 := Scalar.remsi v1159 c32_i32_1035
  let c1_i32_1038 : BitVec 32 := 1#32
  let v1161 : BitVec 32 := Scalar.muli v1160 c1_i32_1038
  let v1162 : BitVec 32 := Scalar.addi c0_i32_1039 v1161
  v1162.toNat
def k0_dev77 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1042 : BitVec 32 := 15#32
  let v1169 : BitVec 32 := Scalar.addi v2 c15_i32_1042
  let c32_i32_1043 : BitVec 32 := 32#32
  let v1170 : BitVec 32 := Scalar.remsi v1169 c32_i32_1043
  let c1_i32_1046 : BitVec 32 := 1#32
  let v1171 : BitVec 32 := Scalar.muli v1170 c1_i32_1046
  let v1172 : BitVec 32 := Scalar.addi c0_i32_1047 v1171
  v1172.toNat
def k0_dev78 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1050 : BitVec 32 := 16#32
  let v1179 : BitVec 32 := Scalar.addi v2 c16_i32_1050
  let c32_i32_1051 : BitVec 32 := 32#32
  let v1180 : BitVec 32 := Scalar.remsi v1179 c32_i32_1051
  let c1_i32_1054 : BitVec 32 := 1#32
  let v1181 : BitVec 32 := Scalar.muli v1180 c1_i32_1054
  let v1182 : BitVec 32 := Scalar.addi c0_i32_1055 v1181
  v1182.toNat
def k0_dev79 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1058 : BitVec 32 := 17#32
  let v1189 : BitVec 32 := Scalar.addi v2 c17_i32_1058
  let c32_i32_1059 : BitVec 32 := 32#32
  let v1190 : BitVec 32 := Scalar.remsi v1189 c32_i32_1059
  let c1_i32_1062 : BitVec 32 := 1#32
  let v1191 : BitVec 32 := Scalar.muli v1190 c1_i32_1062
  let v1192 : BitVec 32 := Scalar.addi c0_i32_1063 v1191
  v1192.toNat
def k0_dev80 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1066 : BitVec 32 := 18#32
  let v1199 : BitVec 32 := Scalar.addi v2 c18_i32_1066
  let c32_i32_1067 : BitVec 32 := 32#32
  let v1200 : BitVec 32 := Scalar.remsi v1199 c32_i32_1067
  let c1_i32_1070 : BitVec 32 := 1#32
  let v1201 : BitVec 32 := Scalar.muli v1200 c1_i32_1070
  let v1202 : BitVec 32 := Scalar.addi c0_i32_1071 v1201
  v1202.toNat
def k0_dev81 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1209 : BitVec 32 := Scalar.addi v2 c19_i32_1074
  let c32_i32_1075 : BitVec 32 := 32#32
  let v1210 : BitVec 32 := Scalar.remsi v1209 c32_i32_1075
  let c1_i32_1078 : BitVec 32 := 1#32
  let v1211 : BitVec 32 := Scalar.muli v1210 c1_i32_1078
  let v1212 : BitVec 32 := Scalar.addi c0_i32_1079 v1211
  v1212.toNat
def k0_dev82 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1082 : BitVec 32 := 20#32
  let v1219 : BitVec 32 := Scalar.addi v2 c20_i32_1082
  let c32_i32_1083 : BitVec 32 := 32#32
  let v1220 : BitVec 32 := Scalar.remsi v1219 c32_i32_1083
  let c1_i32_1086 : BitVec 32 := 1#32
  let v1221 : BitVec 32 := Scalar.muli v1220 c1_i32_1086
  let v1222 : BitVec 32 := Scalar.addi c0_i32_1087 v1221
  v1222.toNat
def k0_dev83 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1090 : BitVec 32 := 21#32
  let v1229 : BitVec 32 := Scalar.addi v2 c21_i32_1090
  let c32_i32_1091 : BitVec 32 := 32#32
  let v1230 : BitVec 32 := Scalar.remsi v1229 c32_i32_1091
  let c1_i32_1094 : BitVec 32 := 1#32
  let v1231 : BitVec 32 := Scalar.muli v1230 c1_i32_1094
  let v1232 : BitVec 32 := Scalar.addi c0_i32_1095 v1231
  v1232.toNat
def k0_dev84 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1098 : BitVec 32 := 22#32
  let v1239 : BitVec 32 := Scalar.addi v2 c22_i32_1098
  let c32_i32_1099 : BitVec 32 := 32#32
  let v1240 : BitVec 32 := Scalar.remsi v1239 c32_i32_1099
  let c1_i32_1102 : BitVec 32 := 1#32
  let v1241 : BitVec 32 := Scalar.muli v1240 c1_i32_1102
  let v1242 : BitVec 32 := Scalar.addi c0_i32_1103 v1241
  v1242.toNat
def k0_dev85 (d0 : Dev nD) : Nat :=
  let c0_i32_1111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1106 : BitVec 32 := 23#32
  let v1249 : BitVec 32 := Scalar.addi v2 c23_i32_1106
  let c32_i32_1107 : BitVec 32 := 32#32
  let v1250 : BitVec 32 := Scalar.remsi v1249 c32_i32_1107
  let c1_i32_1110 : BitVec 32 := 1#32
  let v1251 : BitVec 32 := Scalar.muli v1250 c1_i32_1110
  let v1252 : BitVec 32 := Scalar.addi c0_i32_1111 v1251
  v1252.toNat
def k0_dev86 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1114 : BitVec 32 := 24#32
  let v1259 : BitVec 32 := Scalar.addi v2 c24_i32_1114
  let c32_i32_1115 : BitVec 32 := 32#32
  let v1260 : BitVec 32 := Scalar.remsi v1259 c32_i32_1115
  let c1_i32_1118 : BitVec 32 := 1#32
  let v1261 : BitVec 32 := Scalar.muli v1260 c1_i32_1118
  let v1262 : BitVec 32 := Scalar.addi c0_i32_1119 v1261
  v1262.toNat
def k0_dev87 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1122 : BitVec 32 := 25#32
  let v1269 : BitVec 32 := Scalar.addi v2 c25_i32_1122
  let c32_i32_1123 : BitVec 32 := 32#32
  let v1270 : BitVec 32 := Scalar.remsi v1269 c32_i32_1123
  let c1_i32_1126 : BitVec 32 := 1#32
  let v1271 : BitVec 32 := Scalar.muli v1270 c1_i32_1126
  let v1272 : BitVec 32 := Scalar.addi c0_i32_1127 v1271
  v1272.toNat
def k0_dev88 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1130 : BitVec 32 := 26#32
  let v1279 : BitVec 32 := Scalar.addi v2 c26_i32_1130
  let c32_i32_1131 : BitVec 32 := 32#32
  let v1280 : BitVec 32 := Scalar.remsi v1279 c32_i32_1131
  let c1_i32_1134 : BitVec 32 := 1#32
  let v1281 : BitVec 32 := Scalar.muli v1280 c1_i32_1134
  let v1282 : BitVec 32 := Scalar.addi c0_i32_1135 v1281
  v1282.toNat
def k0_dev89 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1138 : BitVec 32 := 27#32
  let v1289 : BitVec 32 := Scalar.addi v2 c27_i32_1138
  let c32_i32_1139 : BitVec 32 := 32#32
  let v1290 : BitVec 32 := Scalar.remsi v1289 c32_i32_1139
  let c1_i32_1142 : BitVec 32 := 1#32
  let v1291 : BitVec 32 := Scalar.muli v1290 c1_i32_1142
  let v1292 : BitVec 32 := Scalar.addi c0_i32_1143 v1291
  v1292.toNat
def k0_dev90 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1146 : BitVec 32 := 28#32
  let v1299 : BitVec 32 := Scalar.addi v2 c28_i32_1146
  let c32_i32_1147 : BitVec 32 := 32#32
  let v1300 : BitVec 32 := Scalar.remsi v1299 c32_i32_1147
  let c1_i32_1150 : BitVec 32 := 1#32
  let v1301 : BitVec 32 := Scalar.muli v1300 c1_i32_1150
  let v1302 : BitVec 32 := Scalar.addi c0_i32_1151 v1301
  v1302.toNat
def k0_dev91 (d0 : Dev nD) : Nat :=
  let c0_i32_1159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1154 : BitVec 32 := 29#32
  let v1309 : BitVec 32 := Scalar.addi v2 c29_i32_1154
  let c32_i32_1155 : BitVec 32 := 32#32
  let v1310 : BitVec 32 := Scalar.remsi v1309 c32_i32_1155
  let c1_i32_1158 : BitVec 32 := 1#32
  let v1311 : BitVec 32 := Scalar.muli v1310 c1_i32_1158
  let v1312 : BitVec 32 := Scalar.addi c0_i32_1159 v1311
  v1312.toNat
def k0_dev92 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1162 : BitVec 32 := 30#32
  let v1319 : BitVec 32 := Scalar.addi v2 c30_i32_1162
  let c32_i32_1163 : BitVec 32 := 32#32
  let v1320 : BitVec 32 := Scalar.remsi v1319 c32_i32_1163
  let c1_i32_1166 : BitVec 32 := 1#32
  let v1321 : BitVec 32 := Scalar.muli v1320 c1_i32_1166
  let v1322 : BitVec 32 := Scalar.addi c0_i32_1167 v1321
  v1322.toNat
def k0_dev93 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1170 : BitVec 32 := 31#32
  let v1329 : BitVec 32 := Scalar.addi v2 c31_i32_1170
  let c32_i32_1171 : BitVec 32 := 32#32
  let v1330 : BitVec 32 := Scalar.remsi v1329 c32_i32_1171
  let c1_i32_1174 : BitVec 32 := 1#32
  let v1331 : BitVec 32 := Scalar.muli v1330 c1_i32_1174
  let v1332 : BitVec 32 := Scalar.addi c0_i32_1175 v1331
  v1332.toNat
def k0_off4 (d0 : Dev nD) (c0_i32_1178 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1339 : BitVec 32 := Scalar.addi v2 c0_i32_1178
  let c1_i32_1179 : BitVec 32 := 1#32
  let v1340 : BitVec 32 := Scalar.addi v1339 c1_i32_1179
  let c32_i32_1180 : BitVec 32 := 32#32
  let v1341 : BitVec 32 := Scalar.remsi v1340 c32_i32_1180
  let c32_i32_1181 : BitVec 32 := 32#32
  let v1342 : BitVec 32 := Scalar.muli v1341 c32_i32_1181
  let c0_i32_1187 : BitVec 32 := 0#32
  ![v1342.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x256x1024x1024, .f32⟩
  | .hbm, ⟨85, _⟩ => ⟨S_, .f32⟩
  | .hbm, ⟨86, _⟩ => ⟨S1x256x1024x1024, .f32⟩
  | .hbm, ⟨87, _⟩ => ⟨S1x256x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x256x1024x1024, .i1⟩
  | .hbm, ⟨92, _⟩ => ⟨S1x256x1024x1024, .f32⟩
  | .hbm, ⟨93, _⟩ => ⟨S1x256x1024x1024, .f32⟩
  | .hbm, ⟨94, _⟩ => ⟨S_, .f32⟩
  | .hbm, ⟨95, _⟩ => ⟨S1x256x1024, .f32⟩
  | .hbm, ⟨96, _⟩ => ⟨S1x256x1024x1, .f32⟩
  | .hbm, ⟨97, _⟩ => ⟨S1x256x1024x1024, .f32⟩
  | .hbm, ⟨98, _⟩ => ⟨S1x256x1024x1024, .f32⟩
  | .hbm, ⟨99, _⟩ => ⟨S1x256x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x256x1024, .f32⟩
  | .hbm, ⟨105, _⟩ => ⟨S1x256x1024x1, .f32⟩
  | .hbm, ⟨106, _⟩ => ⟨S_, .f32⟩
  | .hbm, ⟨107, _⟩ => ⟨S_, .f32⟩
  | .hbm, ⟨108, _⟩ => ⟨S1x256x1024x1, .i1⟩
  | .hbm, ⟨109, _⟩ => ⟨S1x256x1024x1, .f32⟩
  | .hbm, ⟨110, _⟩ => ⟨S1x256x1024x1, .f32⟩
  | .hbm, ⟨111, _⟩ => ⟨S1x256x1024x1024, .f32⟩
  | .hbm, ⟨112, _⟩ => ⟨S1x256x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x256x1024x1024, .i1⟩
  | .hbm, ⟨117, _⟩ => ⟨S1x256x1024x1024, .f32⟩
  | .hbm, ⟨118, _⟩ => ⟨S1x256x1024x1024, .f32⟩
  | .hbm, ⟨119, _⟩ => ⟨S1x256x128x1024, .f32⟩
  | .hbm, ⟨120, _⟩ => ⟨S1x1024x256x128, .f32⟩
  | .hbm, ⟨121, _⟩ => ⟨S1x1024x32768, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Norm.lean ====
/-
  The kernel's body in a structured form: the six communication loops, which the program prints unrolled, as folds over the
  31 peer offsets, and the attention heads as a fold over the 8 heads of one device. The printed body is equal to it by
  definitional unfolding, so every statement about the structured form is one about the printed program.
-/
module

public import proofs.«01_k».proof.Proof.Gen.KernelIdeal.Launch
public import proofs.«01_k».proof.Proof.Gen.KernelIdeal.Skeleton

@[expose] public section

set_option maxRecDepth 65536

noncomputable section

namespace Cert.KernelIdeal.Body

open Idealize.ShloMosaic Idealize.ShloMosaic.TcCoe Idealize.SL.Sem Cert.KernelIdeal Cert.KernelIdeal.Gen

variable {F : FTy → Type} [FloatOps F]

/-- The operations of the body. -/
abbrev Eff (F : FTy → Type) : Type → Type := TpuEff nD τ sig (Elt F) Λ₀ .tc

/-! ## Peers, slots, views -/

/-- The peer at offset i + 1, as the kernel computes its number. -/
def peerN (d : Dev nD) (i : Fin 31) : Nat :=
  (Scalar.addi 0#32 (Scalar.muli (Scalar.remsi (Scalar.addi (Scalar.remsi (Scalar.divsi (Dev.word d) 1#32) 32#32)
    (BitVec.ofNat 32 (1 + i.val))) 32#32) 1#32)).toNat

theorem peerN_eq : ∀ (d : Dev nD) (i : Fin 31), peerN d i = (d.val + 1 + i.val) % 32 := by decide +kernel
theorem peerN_lt (d : Dev nD) (i : Fin 31) : peerN d i < nD := by rw [peerN_eq]; exact Nat.mod_lt _ (by decide)
def peer (d : Dev nD) (i : Fin 31) : Dev nD := ⟨peerN d i, peerN_lt d i⟩

theorem inbSem (j : Fin 31) : ∀ a, (![j.val] : Fin 1 → Nat) a + S1.size a ≤ S31.size a := by revert j; decide
theorem inbSlot (j : Fin 31) : ∀ a, (![j.val, 0, 0] : Fin 3 → Nat) a + S1x32x1024.size a ≤ S31x32x1024.size a := by revert j; decide
theorem inbHead (h : Fin 8) : ∀ a, (![0, 128 * h.val] : Fin 2 → Nat) a + S1024x128.size a ≤ S1024x1024.size a := by revert h; decide
theorem inbKv (h : Fin 8) : ∀ a, (![h.val, 0, 0] : Fin 3 → Nat) a + S1x1024x128.size a ≤ S8x1024x128.size a := by revert h; decide

/-- Semaphore j of an array of 31. -/
def semAt (a : DmaSems sig S31) (j : Fin 31) : DmaSem sig :=
  ((a.slice (Rect.unit (s := S31) ![j.val] S1.size (inbSem j))).squeeze S_ squeezes_S1_S_).sem

/-- Slot j of the reduce-scatter buffer. -/
def slotOf (a : Memref sig .tc .vmem S31x32x1024 .f32) (j : Fin 31) : Memref sig .tc .vmem S32x1024 .f32 :=
  (a.slice (Rect.unit (s := S31x32x1024) ![j.val, 0, 0] S1x32x1024.size (inbSlot j)) (fun _ => rfl)).squeeze S32x1024 squeezes_S1x32x1024_S32x1024

/-- The 32 rows of the peer at offset i + 1. -/
def peerRows (a : Memref sig .tc .vmem S1024x1024 .f32) (d : Dev nD) (i : Fin 31) : Memref sig .tc .vmem S32x1024 .f32 :=
  a.slice (Rect.unit (s := S1024x1024) (k0_off1 d (BitVec.ofNat 32 (1 + i.val))) S32x1024.size (k0_off1_inb d i)) (fun _ => rfl)
/-- The 32 rows of the device itself. -/
def myRows (a : Memref sig .tc .vmem S1024x1024 .f32) (d : Dev nD) : Memref sig .tc .vmem S32x1024 .f32 :=
  a.slice (Rect.unit (s := S1024x1024) (k0_off3 d) S32x1024.size (k0_off3_inb d)) (fun _ => rfl)
/-- The 32 rows of the device that fills slot j. -/
def slotRows (a : Memref sig .tc .vmem S1024x1024 .f32) (d : Dev nD) (j : Fin 31) : Memref sig .tc .vmem S32x1024 .f32 :=
  a.slice (Rect.unit (s := S1024x1024) (k0_off4 d (BitVec.ofNat 32 j.val)) S32x1024.size (k0_off4_inb d j)) (fun _ => rfl)

/-- The slot the copy at offset i + 1 goes to. -/
abbrev opp (i : Fin 31) : Fin 31 := ⟨30 - i.val, by omega⟩

/-! ## Values -/

/-- The block-sparse mask. -/
def maskV : IVec S1024x1024 1 :=
  let v192 : BitVec 32 := Scalar.select (Scalar.cmpi .eq 3#32 0#32) 1#32 3#32
  k0_pay11 (k0_pay7 k0_pay2 k0_pay3 k0_pay4) v192 (k0_pay8 k0_pay2 k0_pay3 k0_pay4) (k0_pay9 k0_pay2 k0_pay3 k0_pay4)
    (k0_pay10 k0_pay2 k0_pay3 k0_pay4) 0#32

/-- One head's masked, scaled scores. -/
def scoreV (q : Vec F S1024x128 .f32) (k : Vec F S1x1024x128 .f32) : FVec F S1024x1024 .f32 :=
  select maskV
    (mulf (matmul dot_S1024x128_S1024x128_S1024x1024_1_1_0_0_n_n none q (shapeCast S1024x128 k shapeCasts_S1x1024x128_S1024x128)
      (constant S1024x1024 .f32 0x00000000#32)) (broadcast S1024x1024 (Scalar.ofBits .f32 0x3DB504F3#32)))
    (broadcast S1024x1024 (Scalar.ofBits .f32 0xCE6E6B28#32))
/-- The scores exponentiated, each row's maximum subtracted first. -/
def expV (s : FVec F S1024x1024 .f32) : FVec F S1024x1024 .f32 :=
  exp (subf s (broadcastTo S1024x1024 (shapeCast S1024x1 (multiReduction .maximumf [1] S1024 s 0xFF800000#32 reduces_S1024x1024_S1024 (.inl rfl) rfl)
    shapeCasts_S1024_S1024x1) broadcasts_S1024x1_S1024x1024))
/-- Each row divided by its sum. -/
def normV (w : FVec F S1024x1024 .f32) : FVec F S1024x1024 .f32 :=
  divf w (broadcastTo S1024x1024 (shapeCast S1024x1 (multiReduction .add [1] S1024 w 0x00000000#32 reduces_S1024x1024_S1024 (.inl rfl) rfl)
    shapeCasts_S1024_S1024x1) broadcasts_S1024x1_S1024x1024)
/-- One head's context, from its query columns and its keys and values. -/
def headV (q : Vec F S1024x128 .f32) (k v : Vec F S1x1024x128 .f32) : FVec F S1024x128 .f32 :=
  shapeCast S1024x128 (matmul dot_S1024x1024_S1024x128_S1024x128_1_0_0_1_n_n none (normV (expV (scoreV q k)))
    (shapeCast S1024x128 v shapeCasts_S1x1024x128_S1024x128) (constant S1024x128 .f32 0x00000000#32)) shapeCasts_S1024x128_S1024x128

/-! ## The program -/

/-- One operation per index, in order, then the rest. -/
def each {α : Type} (l : List (Fin 31)) (f : Fin 31 → Eff F PUnit) (k : Prog (Eff F) α) : Prog (Eff F) α :=
  l.foldr (fun i p => .op (f i) fun _ => p) k

abbrev idx31 : List (Fin 31) := [0, 1, 2, 3, 4, 5, 6, 7, 8, 9, 10, 11, 12, 13, 14, 15, 16, 17, 18, 19, 20, 21, 22, 23, 24, 25, 26, 27, 28, 29, 30]
abbrev idx8 : List (Fin 8) := [0, 1, 2, 3, 4, 5, 6, 7]

abbrev wholeRect : Rect S1024x1024 := Rect.unit (s := S1024x1024) ![0, 0] S1024x1024.size inb_S1024x1024_S1024x1024_0_0
abbrev headRect (h : Fin 8) : Rect S1024x1024 := Rect.unit (s := S1024x1024) ![0, 128 * h.val] S1024x128.size (inbHead h)
abbrev kvRect (h : Fin 8) : Rect S8x1024x128 := Rect.unit (s := S8x1024x128) ![h.val, 0, 0] S1x1024x128.size (inbKv h)

/-- One head: its query columns, keys and values read, its context columns written. -/
def headP {α : Type} (arg2 arg3 : Memref sig .tc .vmem S8x1024x128 .f32) (arg7 arg8 : Memref sig .tc .vmem S1024x1024 .f32) (h : Fin 8)
    (k : Prog (Eff F) α) : Prog (Eff F) α :=
  .op (.load arg7 (headRect h).toLoadRect (View.loadsAt_vmem h_S1024x128)) fun q =>
  .op (.load arg2 (kvRect h).toLoadRect (View.loadsAt_vmem h_S1x1024x128)) fun kk =>
  .op (.load arg3 (kvRect h).toLoadRect (View.loadsAt_vmem h_S1x1024x128)) fun vv =>
  .op (.load arg8 (headRect h).toLoadRect (View.loadsAt_vmem h_S1024x128)) fun _ =>
  .op (.store arg8 (headRect h) (headV q kk vv) Finset.univ (View.stores_vmem_bits_univ h_S1024x128 rfl) (.inl rfl)) fun _ => k

/-- The projections and the heads. -/
def computeP {α : Type} (arg0 arg1 : Memref sig .tc .vmem S1024x1024 .f32) (arg2 arg3 : Memref sig .tc .vmem S8x1024x128 .f32)
    (arg4 arg6 arg7 arg8 : Memref sig .tc .vmem S1024x1024 .f32) (k : Prog (Eff F) α) : Prog (Eff F) α :=
  .op (.load arg0 wholeRect.toLoadRect (View.loadsAt_vmem h_S1024x1024)) fun x =>
  .op (.load arg1 wholeRect.toLoadRect (View.loadsAt_vmem h_S1024x1024)) fun w =>
  .op (.load arg7 wholeRect.toLoadRect (View.loadsAt_vmem h_S1024x1024)) fun _ =>
  .op (.store arg7 wholeRect (k0_pay1 x w) Finset.univ (View.stores_vmem_bits_univ h_S1024x1024 rfl) (.inl rfl)) fun _ =>
  idx8.foldr (fun h p => headP arg2 arg3 arg7 arg8 h p) <|
  .op (.load arg8 wholeRect.toLoadRect (View.loadsAt_vmem h_S1024x1024)) fun ctx =>
  .op (.load arg4 wholeRect.toLoadRect (View.loadsAt_vmem h_S1024x1024)) fun wo =>
  .op (.load arg6 wholeRect.toLoadRect (View.loadsAt_vmem h_S1024x1024)) fun _ =>
  .op (.store arg6 wholeRect (k0_pay25 ctx wo) Finset.univ (View.stores_vmem_bits_univ h_S1024x1024 rfl) (.inl rfl)) fun _ => k

/-- The device's own rows summed over the devices, and stored. -/
def reduceP {α : Type} (arg5 arg6 : Memref sig .tc .vmem S1024x1024 .f32) (arg9 : Memref sig .tc .vmem S31x32x1024 .f32) (d : Dev nD)
    (k : Prog (Eff F) α) : Prog (Eff F) α :=
  .op (.load arg6 (Rect.unit (s := S1024x1024) (k0_off2 d) S32x1024.size (k0_off2_inb d)).toLoadRect (View.loadsAt_vmem h_S32x1024)) fun a =>
  .op (.load arg9 (Rect.unit (s := S31x32x1024) ![0, 0, 0] S31x32x1024.size inb_S31x32x1024_S31x32x1024_0_0_0).toLoadRect (View.loadsAt_vmem h_S31x32x1024)) fun b =>
  .op (.load arg5 (Rect.unit (s := S1024x1024) (k0_off2 d) S32x1024.size (k0_off2_inb d)).toLoadRect (View.loadsAt_vmem h_S32x1024)) fun _ =>
  .op (.store arg5 (Rect.unit (s := S1024x1024) (k0_off2 d) S32x1024.size (k0_off2_inb d)) (k0_pay26 a b) Finset.univ
    (View.stores_vmem_bits_univ h_S32x1024 rfl) (.inl rfl)) fun _ => k

/-- The signal to the peer at offset i + 1. -/
def signalE (d : Dev nD) (i : Fin 31) : Eff F PUnit := .semSignal (peer d i).tc barrier0 (1#32 : BitVec 32).toInt
/-- The reduce-scatter copy to the peer at offset i + 1: the peer's rows of the accumulator into the peer's slot. -/
def rsSendE (arg6 : Memref sig .tc .vmem S1024x1024 .f32) (arg9 : Memref sig .tc .vmem S31x32x1024 .f32) (arg10 arg11 : DmaSems sig S31)
    (d : Dev nD) (i : Fin 31) : Eff F PUnit :=
  .enqueueDma (peerRows arg6 d i) (.remote (Dev.tc (peer d i)) (slotOf arg9 (opp i)) (.dma (semAt arg10 (opp i)))) (.dma (semAt arg11 (opp i)))
    (View.wordExact_bits rfl) ((View.wordExact_bits rfl).reshape _ _) ⟨⟨rfl, Or.inl rfl⟩, trivial⟩
def rsWaitE (arg9 : Memref sig .tc .vmem S31x32x1024 .f32) (arg11 : DmaSems sig S31) (j : Fin 31) : Eff F PUnit :=
  .waitDma2 (semAt arg11 j) (slotOf arg9 j) (slotOf arg9 j) ((View.wordExact_bits rfl).reshape _ _) ((View.wordExact_bits rfl).reshape _ _)
/-- The all-gather copy to the peer at offset i + 1: the device's own rows into the same rows there. -/
def agSendE (arg5 : Memref sig .tc .vmem S1024x1024 .f32) (arg12 arg13 : DmaSems sig S31) (d : Dev nD) (i : Fin 31) : Eff F PUnit :=
  .enqueueDma (myRows arg5 d) (.remote (Dev.tc (peer d i)) (myRows arg5 d) (.dma (semAt arg12 (opp i)))) (.dma (semAt arg13 (opp i)))
    (View.wordExact_bits rfl) (View.wordExact_bits rfl) ⟨⟨rfl, Or.inl rfl⟩, trivial⟩
def agWaitE (arg5 : Memref sig .tc .vmem S1024x1024 .f32) (arg9 : Memref sig .tc .vmem S31x32x1024 .f32) (arg13 : DmaSems sig S31)
    (d : Dev nD) (j : Fin 31) : Eff F PUnit :=
  .waitDma2 (semAt arg13 j) (slotOf arg9 j) (slotRows arg5 d j) ((View.wordExact_bits rfl).reshape _ _) (View.wordExact_bits rfl)
def rsDoneE (arg6 : Memref sig .tc .vmem S1024x1024 .f32) (arg9 : Memref sig .tc .vmem S31x32x1024 .f32) (arg10 : DmaSems sig S31)
    (d : Dev nD) (i : Fin 31) : Eff F PUnit :=
  .waitDma2 (semAt arg10 (opp i)) (slotOf arg9 (opp i)) (peerRows arg6 d i) ((View.wordExact_bits rfl).reshape _ _) (View.wordExact_bits rfl)
def agDoneE (arg5 : Memref sig .tc .vmem S1024x1024 .f32) (arg12 : DmaSems sig S31) (d : Dev nD) (i : Fin 31) : Eff F PUnit :=
  .waitDma2 (semAt arg12 (opp i)) (myRows arg5 d) (myRows arg5 d) (View.wordExact_bits rfl) (View.wordExact_bits rfl)

/-- The body. -/
def bodyP (arg0 arg1 : Memref sig .tc .vmem S1024x1024 .f32) (arg2 arg3 : Memref sig .tc .vmem S8x1024x128 .f32)
    (arg4 arg5 arg6 arg7 arg8 : Memref sig .tc .vmem S1024x1024 .f32) (arg9 : Memref sig .tc .vmem S31x32x1024 .f32)
    (arg10 arg11 arg12 arg13 : DmaSems sig S31) : Prog (Eff F) PUnit :=
  .op .deviceId fun d =>
  each idx31 (signalE d) <|
  .op (.semWait barrier0 (31#32 : BitVec 32).toInt) fun _ =>
  computeP arg0 arg1 arg2 arg3 arg4 arg6 arg7 arg8 <|
  each idx31 (rsSendE arg6 arg9 arg10 arg11 d) <|
  each idx31 (rsWaitE arg9 arg11) <|
  reduceP arg5 arg6 arg9 d <|
  each idx31 (agSendE arg5 arg12 arg13 d) <|
  each idx31 (agWaitE arg5 arg9 arg13 d) <|
  each idx31 (rsDoneE arg6 arg9 arg10 d) <|
  each idx31 (agDoneE arg5 arg12 d) <| .ret ⟨⟩

set_option maxHeartbeats 4000000 in
/-- The printed body is the structured one. -/
theorem body_eq (arg0 : Memref sig .tc .vmem S1024x1024 .f32) (h0 : arg0.IsWhole) (arg1 : Memref sig .tc .vmem S1024x1024 .f32) (h1 : arg1.IsWhole)
    (arg2 : Memref sig .tc .vmem S8x1024x128 .f32) (h2 : arg2.IsWhole) (arg3 : Memref sig .tc .vmem S8x1024x128 .f32) (h3 : arg3.IsWhole)
    (arg4 : Memref sig .tc .vmem S1024x1024 .f32) (h4 : arg4.IsWhole) (arg5 : Memref sig .tc .vmem S1024x1024 .f32) (h5 : arg5.IsWhole)
    (arg6 : Memref sig .tc .vmem S1024x1024 .f32) (h6 : arg6.IsWhole) (arg7 : Memref sig .tc .vmem S1024x1024 .f32) (h7 : arg7.IsWhole)
    (arg8 : Memref sig .tc .vmem S1024x1024 .f32) (h8 : arg8.IsWhole) (arg9 : Memref sig .tc .vmem S31x32x1024 .f32) (h9 : arg9.IsWhole)
    (arg10 arg11 arg12 arg13 : DmaSems sig S31) :
    cc0__body (F := F) arg0 h0 arg1 h1 arg2 h2 arg3 h3 arg4 h4 arg5 h5 arg6 h6 arg7 h7 arg8 h8 arg9 h9 arg10 arg11 arg12 arg13
      = bodyP arg0 arg1 arg2 arg3 arg4 arg5 arg6 arg7 arg8 arg9 arg10 arg11 arg12 arg13 := by
  chain_rfl

end Cert.KernelIdeal.Body

end
-- ==== Proof.Views.lean ====
/-
  The buffers the devices exchange, by rows and by slots: the printed views as 32-row blocks named by a device, the elements
  under each, that the blocks (and the slots) are disjoint and together the whole buffer, and what a copy leaves.
-/
module

public import proofs.«01_k».proof.Proof.Norm
public import Idealize.ShloMosaic.Lib.ViewIndex
public import Idealize.ShloMosaic.Lib.Tactic

@[expose] public section

set_option maxRecDepth 65536

noncomputable section

namespace Cert.KernelIdeal.Body

open Idealize.ShloMosaic Idealize.ShloMosaic.TcCoe Idealize.SL.Sem Cert.KernelIdeal Cert.KernelIdeal.Gen

variable {F : FTy → Type} [FloatOps F]

/-! ## Peers -/

theorem peer_val (d : Dev nD) (i : Fin 31) : (peer d i).val = (d.val + 1 + i.val) % 32 := peerN_eq d i
/-- The peer at the opposite offset of the peer is the device itself. -/
theorem peer_peer (d : Dev nD) (i : Fin 31) : peer (peer d i) (opp i) = d := by
  apply Fin.ext
  rw [peer_val, peer_val]
  have := d.isLt; have := i.isLt
  show ((d.val + 1 + i.val) % 32 + 1 + (30 - i.val)) % 32 = d.val
  simp only [nD] at *
  omega
theorem opp_opp (i : Fin 31) : opp (opp i) = i := by
  apply Fin.ext; show 30 - (30 - i.val) = i.val; have := i.isLt; omega
theorem peer_peer' (d : Dev nD) (i : Fin 31) : peer (peer d (opp i)) i = d := by
  have := peer_peer d (opp i); rwa [opp_opp] at this
theorem peer_ne (d : Dev nD) (i : Fin 31) : peer d i ≠ d := by
  intro h
  have h' := congrArg Fin.val h
  rw [peer_val] at h'
  have := d.isLt; have := i.isLt
  simp only [nD] at *
  omega
theorem peer_inj (d : Dev nD) : Function.Injective (peer d) := by
  intro i j h
  have h' := congrArg Fin.val h
  rw [peer_val, peer_val] at h'
  have := d.isLt; have := i.isLt; have := j.isLt
  apply Fin.ext
  simp only [nD] at *
  omega
/-- Every other device is a peer. -/
theorem exists_peer (d e : Dev nD) (h : e ≠ d) : ∃ i, peer d i = e := by
  have hd := d.isLt; have he := e.isLt
  have hne : e.val ≠ d.val := fun h' => h (Fin.ext h')
  simp only [nD] at hd he
  refine ⟨⟨(e.val + 31 - d.val) % 32, by omega⟩, Fin.ext ?_⟩
  rw [peer_val]
  show (d.val + 1 + (e.val + 31 - d.val) % 32) % 32 = e.val
  omega

/-! ## Row blocks -/

theorem inbRows (d : Dev nD) : ∀ a, (![32 * d.val, 0] : Fin 2 → Nat) a + S32x1024.size a ≤ S1024x1024.size a := by revert d; decide
/-- The 32 rows of device d, as a rectangle. -/
abbrev rowsR (d : Dev nD) : Rect S1024x1024 := Rect.unit (s := S1024x1024) ![32 * d.val, 0] S32x1024.size (inbRows d)
/-- The 32 rows of device d of a buffer. -/
abbrev rowsM (a : Memref sig .tc .vmem S1024x1024 .f32) (d : Dev nD) : Memref sig .tc .vmem S32x1024 .f32 := a.slice (rowsR d) (fun _ => rfl)

theorem unit_congr {off off' : Fin 2 → Nat} (e : off = off') (h : ∀ a, off a + S32x1024.size a ≤ S1024x1024.size a)
    (h' : ∀ a, off' a + S32x1024.size a ≤ S1024x1024.size a) :
    Rect.unit (s := S1024x1024) off S32x1024.size h = Rect.unit (s := S1024x1024) off' S32x1024.size h' := by
  subst e; rfl
theorem slice_congr (a : Memref sig .tc .vmem S1024x1024 .f32) {off off' : Fin 2 → Nat} (e : off = off')
    (h : ∀ a, off a + S32x1024.size a ≤ S1024x1024.size a) (h' : ∀ a, off' a + S32x1024.size a ≤ S1024x1024.size a) :
    (a.slice (Rect.unit (s := S1024x1024) off S32x1024.size h) (fun _ => rfl) : Memref sig .tc .vmem S32x1024 .f32)
      = a.slice (Rect.unit (s := S1024x1024) off' S32x1024.size h') (fun _ => rfl) := by
  subst e; rfl

theorem off1_eq : ∀ (d : Dev nD) (i : Fin 31), k0_off1 d (BitVec.ofNat 32 (1 + i.val)) = ![32 * ((d.val + 1 + i.val) % 32), 0] := by decide +kernel
theorem off2_eq : ∀ d : Dev nD, k0_off2 d = ![32 * d.val, 0] := by decide +kernel
theorem off3_eq : ∀ d : Dev nD, k0_off3 d = ![32 * d.val, 0] := by decide +kernel
theorem off4_eq : ∀ (d : Dev nD) (i : Fin 31), k0_off4 d (BitVec.ofNat 32 i.val) = ![32 * ((d.val + 1 + i.val) % 32), 0] := by decide +kernel

theorem peerRows_eq (a : Memref sig .tc .vmem S1024x1024 .f32) (d : Dev nD) (i : Fin 31) : peerRows a d i = rowsM a (peer d i) :=
  slice_congr a (by rw [off1_eq, peer_val]) _ _
theorem myRows_eq (a : Memref sig .tc .vmem S1024x1024 .f32) (d : Dev nD) : myRows a d = rowsM a d := slice_congr a (off3_eq d) _ _
theorem slotRows_eq (a : Memref sig .tc .vmem S1024x1024 .f32) (d : Dev nD) (j : Fin 31) : slotRows a d j = rowsM a (peer d j) :=
  slice_congr a (by rw [off4_eq, peer_val]) _ _
theorem off2_rect (d : Dev nD) : Rect.unit (s := S1024x1024) (k0_off2 d) S32x1024.size (k0_off2_inb d) = rowsR d := unit_congr (off2_eq d) _ _

/-- The elements of device d's rows. -/
def rowsOf (d : Dev nD) : Finset S1024x1024.Idx := Finset.univ.filter fun x => (x 0).val / 32 = d.val
theorem mem_rowsOf {d : Dev nD} {x : S1024x1024.Idx} : x ∈ rowsOf d ↔ (x 0).val / 32 = d.val := by simp [rowsOf]

/-- An element by its two coordinates. -/
abbrev ix2 (r : Fin 1024) (k : Fin 1024) : S1024x1024.Idx := fun a => match a with | ⟨0, _⟩ => r | ⟨1, _⟩ => k
abbrev ixB (r : Fin 32) (k : Fin 1024) : S32x1024.Idx := fun a => match a with | ⟨0, _⟩ => r | ⟨1, _⟩ => k

theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem rows_emb0 (d : Dev nD) (x : S32x1024.Idx) : ((rowsR d).emb x 0).val = 32 * d.val + (x 0).val := by
  show 32 * d.val + 1 * (x 0).val = _; omega
theorem rows_emb1 (d : Dev nD) (x : S32x1024.Idx) : ((rowsR d).emb x 1).val = (x 1).val := by
  show 0 + 1 * (x 1).val = _; omega

theorem lt1024 (x : S1024x1024.Idx) (a : Fin 2) : (x a).val < 1024 := by
  match a with
  | ⟨0, _⟩ => exact (x 0).isLt
  | ⟨1, _⟩ => exact (x 1).isLt

/-- An element's place within its block of rows. -/
def inBlock (x : S1024x1024.Idx) : S32x1024.Idx := ixB ⟨(x 0).val % 32, Nat.mod_lt _ (by decide)⟩ ⟨(x 1).val, lt1024 x 1⟩
/-- The device whose rows an element is in. -/
def ownerOf (x : S1024x1024.Idx) : Dev nD := ⟨(x 0).val / 32, by have := lt1024 x 0; simp only [nD]; omega⟩

theorem emb_inBlock (x : S1024x1024.Idx) : (rowsR (ownerOf x)).emb (inBlock x) = x :=
  idx2_ext (by rw [rows_emb0]; show 32 * ((x 0).val / 32) + (x 0).val % 32 = _; omega) (by rw [rows_emb1]; rfl)
theorem inBlock_emb (d : Dev nD) (x : S32x1024.Idx) : inBlock ((rowsR d).emb x) = x := by
  have h0 : (x 0).val < 32 := (x 0).isLt
  exact idx2_ext (by show ((rowsR d).emb x 0).val % 32 = _; rw [rows_emb0]; omega) (by show ((rowsR d).emb x 1).val = _; rw [rows_emb1])
theorem ownerOf_emb (d : Dev nD) (x : S32x1024.Idx) : ownerOf ((rowsR d).emb x) = d := by
  have h0 : (x 0).val < 32 := (x 0).isLt
  exact Fin.ext (by show ((rowsR d).emb x 0).val / 32 = _; rw [rows_emb0]; omega)
theorem mem_rowsOf_iff {d : Dev nD} {x : S1024x1024.Idx} : x ∈ rowsOf d ↔ ownerOf x = d := by
  rw [mem_rowsOf]; exact ⟨fun h => Fin.ext h, fun h => congrArg Fin.val h⟩

theorem rows_set (d : Dev nD) : (rowsR d).set = rowsOf d := by
  ext x
  rw [mem_rowsOf_iff]
  constructor
  · intro h
    obtain ⟨y, -, rfl⟩ := Finset.mem_map.mp ((Rect.map_emb_univ (rowsR d)).symm ▸ h)
    exact ownerOf_emb d y
  · rintro rfl
    rw [← Rect.map_emb_univ]
    exact Finset.mem_map.mpr ⟨inBlock x, Finset.mem_univ _, emb_inBlock x⟩

theorem rows_disjoint {d e : Dev nD} (h : d ≠ e) : Disjoint (rowsOf d) (rowsOf e) :=
  Finset.disjoint_left.mpr fun _ h1 h2 => h ((mem_rowsOf_iff.mp h1).symm.trans (mem_rowsOf_iff.mp h2))

/-- The device's own rows and its peers' rows are all of them. -/
theorem rows_cover (d : Dev nD) : (Finset.univ : Finset S1024x1024.Idx) = rowsOf d ∪ Finset.univ.biUnion fun i : Fin 31 => rowsOf (peer d i) := by
  refine (Finset.eq_univ_iff_forall.mpr fun x => ?_).symm
  rw [Finset.mem_union]
  by_cases h : ownerOf x = d
  · exact .inl (mem_rowsOf_iff.mpr h)
  · obtain ⟨i, hi⟩ := exists_peer d (ownerOf x) h
    exact .inr (Finset.mem_biUnion.mpr ⟨i, Finset.mem_univ _, mem_rowsOf_iff.mpr hi.symm⟩)
theorem rows_cover_disjoint (d : Dev nD) : Disjoint (rowsOf d) (Finset.univ.biUnion fun i : Fin 31 => rowsOf (peer d i)) :=
  (Finset.disjoint_biUnion_right _ _ _).mpr fun i _ => rows_disjoint (peer_ne d i).symm
theorem rows_peers_disjoint (d : Dev nD) : ∀ i ∈ (Finset.univ : Finset (Fin 31)), ∀ j ∈ (Finset.univ : Finset (Fin 31)), i ≠ j →
    Disjoint (rowsOf (peer d i)) (rowsOf (peer d j)) :=
  fun _ _ _ _ h => rows_disjoint fun e => h (peer_inj d e)

/-! ## Slots -/

abbrev slotR (j : Fin 31) : Rect S31x32x1024 := Rect.unit (s := S31x32x1024) ![j.val, 0, 0] S1x32x1024.size (inbSlot j)
/-- The elements of slot j. -/
def slotSet (j : Fin 31) : Finset S31x32x1024.Idx := Finset.univ.filter fun x => (x 0).val = j.val

theorem slot_emb0 (j : Fin 31) (x : S1x32x1024.Idx) : ((slotR j).emb x 0).val = j.val := by
  have h : (x 0).val < 1 := (x 0).isLt
  show j.val + 1 * (x 0).val = _; omega
theorem slot_emb1 (j : Fin 31) (x : S1x32x1024.Idx) : ((slotR j).emb x 1).val = (x 1).val := by
  show 0 + 1 * (x 1).val = _; omega
theorem slot_emb2 (j : Fin 31) (x : S1x32x1024.Idx) : ((slotR j).emb x 2).val = (x 2).val := by
  show 0 + 1 * (x 2).val = _; omega

theorem slot_set (j : Fin 31) : (slotR j).set = slotSet j := by
  ext x
  have hx : x ∈ slotSet j ↔ (x 0).val = j.val := by simp [slotSet]
  rw [hx]
  constructor
  · intro h
    obtain ⟨y, -, rfl⟩ := Finset.mem_map.mp ((Rect.map_emb_univ (slotR j)).symm ▸ h)
    exact slot_emb0 j y
  · intro h
    rw [← Rect.map_emb_univ]
    refine Finset.mem_map.mpr ⟨fun a => match a with | ⟨0, _⟩ => (0 : Fin 1) | ⟨1, _⟩ => x 1 | ⟨2, _⟩ => x 2, Finset.mem_univ _, ?_⟩
    exact Shape.idx3_ext (by rw [slot_emb0, h]) (by rw [slot_emb1]) (by rw [slot_emb2])

theorem slot_disjoint : ∀ i ∈ (Finset.univ : Finset (Fin 31)), ∀ j ∈ (Finset.univ : Finset (Fin 31)), i ≠ j → Disjoint (slotSet i) (slotSet j) :=
  fun i _ j _ h => Finset.disjoint_left.mpr fun x h1 h2 => h (Fin.ext (by
    simp only [slotSet, Finset.mem_filter, Finset.mem_univ, true_and] at h1 h2
    exact h1.symm.trans h2))
theorem slot_cover : (Finset.univ : Finset S31x32x1024.Idx) = Finset.univ.biUnion slotSet := by
  refine (Finset.eq_univ_iff_forall.mpr fun x => ?_).symm
  exact Finset.mem_biUnion.mpr ⟨⟨(x 0).val, (x 0).isLt⟩, Finset.mem_univ _, by simp [slotSet]⟩

/-! ## The four exchanged views of the printed buffers -/

abbrev accM : Memref sig .tc .vmem S1024x1024 .f32 := Memref.whole cc0_scratch0
abbrev qM : Memref sig .tc .vmem S1024x1024 .f32 := Memref.whole cc0_scratch1
abbrev ctxM : Memref sig .tc .vmem S1024x1024 .f32 := Memref.whole cc0_scratch2
abbrev rsM : Memref sig .tc .vmem S31x32x1024 .f32 := Memref.whole cc0_scratch3
abbrev outM : Memref sig .tc .vmem S1024x1024 .f32 := Memref.whole cc0_stg5_0

theorem acc_set (d : Dev nD) : (rowsM accM d).view.set = rowsOf d := (View.set_slice_whole cc0_scratch0 (rowsR d)).trans (rows_set d)
theorem out_set (d : Dev nD) : (rowsM outM d).view.set = rowsOf d := (View.set_slice_whole cc0_stg5_0 (rowsR d)).trans (rows_set d)
theorem rs_set (j : Fin 31) : (slotOf rsM j).view.set = slotSet j := by
  unfold slotOf
  exact ((View.set_reshape _ _).trans (View.set_slice_whole cc0_scratch3 (slotR j))).trans (slot_set j)

/-- A transfer's credit. -/
def NC : ℕ := (rowsM outM 0).view.dmaCredit
theorem NC_pos : 0 < NC := View.dmaCredit_pos _ (by decide)
theorem credit_out (d : Dev nD) : (rowsM outM d).view.dmaCredit = NC := rfl
theorem credit_acc (d : Dev nD) : (rowsM accM d).view.dmaCredit = NC := rfl
theorem credit_rs (j : Fin 31) : (slotOf rsM j).view.dmaCredit = NC := rfl

/-! ## What the copies leave -/

variable (A : Dev nD → Vec F S1024x1024 .f32)

/-- Device d's slots once every peer's copy has landed: slot j holds d's rows of the accumulator of the peer at offset j + 1. -/
def landed (d : Dev nD) : Vec F S31x32x1024 .f32 := fun x =>
  A (peer d ⟨(x 0).val, (x 0).isLt⟩) ((rowsR d).emb (ixB ⟨(x 1).val, (x 1).isLt⟩ ⟨(x 2).val, (x 2).isLt⟩))

/-- Device d's rows of the result: its own accumulator's rows and its slots, summed. -/
def chunk (d : Dev nD) : FVec F S32x1024 .f32 := k0_pay26 (fun x => A d ((rowsR d).emb x)) (landed A d)
/-- The result. -/
def outF : Vec F S1024x1024 .f32 := fun x => chunk A (ownerOf x) (inBlock x)

theorem slot_write (d : Dev nD) (j : Fin 31) (fd : Vec F S31x32x1024 .f32) (i : S31x32x1024.Idx) (hi : i ∈ slotSet j) :
    (slotOf rsM j).view.write (Elt F) fd ((rowsM accM d).view.read (Elt F) (A (peer d j))) Finset.univ i = landed A d i := by
  have hi' : i ∈ (slotOf rsM j).view.set := by rw [rs_set]; exact hi
  obtain ⟨x, -, rfl⟩ := Finset.mem_map.mp hi'
  refine (View.write_emb_of_mem (v := (slotOf rsM j).view) _ _ (Finset.mem_univ x)).trans ?_
  have hx : (slotOf rsM j).view.emb x = (slotR j).emb (Fin.cons ⟨0, Nat.one_pos⟩ x) := by
    show (slotR j).emb (Shape.reshapeEquiv _ x) = _
    rw [Shape.reshapeEquiv_cons_one]
  refine Eq.trans ?_ (congrArg (landed A d) hx).symm
  show A (peer d j) ((rowsR d).emb x) = A (peer d _) ((rowsR d).emb _)
  have e0 : (⟨((slotR j).emb (Fin.cons ⟨0, Nat.one_pos⟩ x) 0).val, ((slotR j).emb (Fin.cons ⟨0, Nat.one_pos⟩ x) 0).isLt⟩ : Fin 31) = j :=
    Fin.ext (slot_emb0 j _)
  have e1 : ixB ⟨((slotR j).emb (Fin.cons ⟨0, Nat.one_pos⟩ x) 1).val, ((slotR j).emb (Fin.cons ⟨0, Nat.one_pos⟩ x) 1).isLt⟩
      ⟨((slotR j).emb (Fin.cons ⟨0, Nat.one_pos⟩ x) 2).val, ((slotR j).emb (Fin.cons ⟨0, Nat.one_pos⟩ x) 2).isLt⟩ = x :=
    idx2_ext (slot_emb1 j _) (slot_emb2 j _)
  rw [e0, e1]

/-- A copy of a view onto itself on another device leaves what it read. -/
theorem out_write (d : Dev nD) (fd f : Vec F S1024x1024 .f32) (i : S1024x1024.Idx) (hi : i ∈ rowsOf d) :
    (rowsM outM d).view.write (Elt F) fd ((rowsM outM d).view.read (Elt F) f) Finset.univ i = f i := by
  have hi' : i ∈ (rowsM outM d).view.set := by rw [out_set]; exact hi
  obtain ⟨x, -, rfl⟩ := Finset.mem_map.mp hi'
  rw [View.write_emb_of_mem _ _ (Finset.mem_univ x)]
  rfl

/-- The store of device d's rows leaves the result's. -/
theorem chunk_write (d : Dev nD) (fd : Vec F S1024x1024 .f32) (i : S1024x1024.Idx) (hi : i ∈ rowsOf d) :
    (outM.access (rowsR d)).write (Elt F) fd (chunk A d) Finset.univ i = outF A i := by
  have hi' : i ∈ (rowsM outM d).view.set := by rw [out_set]; exact hi
  obtain ⟨x, -, rfl⟩ := Finset.mem_map.mp hi'
  rw [show (rowsM outM d).view.emb x = (outM.access (rowsR d)).emb x from rfl, View.write_emb_of_mem _ _ (Finset.mem_univ x)]
  show chunk A d x = chunk A (ownerOf ((rowsR d).emb x)) (inBlock ((rowsR d).emb x))
  rw [ownerOf_emb, inBlock_emb]

end Cert.KernelIdeal.Body

end
-- ==== Proof.Sched.lean ====
/-
  The protocol of the exchange. Device c and its peer at offset i + 1 (i = 0 … 30): a cell is a semaphore of a device, and
  every cell has one round.
    barrier cell of c: 31 duties of one unit, duty i paid by the peer whose offset i + 1 peer is c. The payment hands c what c
      will copy into: one slot of the payer's landing buffer and the payer's copy of c's rows of the result.
    four arrays of 31 copy cells: the sending and the landing side of the two exchanges, each one duty, paid by the copy.
  The accumulators A are a parameter: what each device's accumulator holds when the first copies start.
-/
module

public import proofs.«01_k».proof.Proof.Views
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.SparseCore.Stream

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- Copy semaphore j of array k: 0 and 1 the first exchange's sending and landing side, 2 and 3 the second's. -/
def dsem (k : Fin 4) (j : Fin 31) : DmaSem sig := ⟨6 + 31 * k.val + j.val, by have := k.isLt; have := j.isLt; show _ < 130; omega⟩

theorem sem4_eq : ∀ j : Fin 31, semAt cc0_scratch4 j = dsem 0 j := by decide +kernel
theorem sem5_eq : ∀ j : Fin 31, semAt cc0_scratch5 j = dsem 1 j := by decide +kernel
theorem sem6_eq : ∀ j : Fin 31, semAt cc0_scratch6 j = dsem 2 j := by decide +kernel
theorem sem7_eq : ∀ j : Fin 31, semAt cc0_scratch7 j = dsem 3 j := by decide +kernel

def semArr (s : DmaSem sig) : Fin 4 := ⟨(s.val - 6) / 31 % 4, Nat.mod_lt _ (by decide)⟩
def semIdx (s : DmaSem sig) : Fin 31 := ⟨(s.val - 6) % 31, Nat.mod_lt _ (by decide)⟩
theorem semArr_dsem (k : Fin 4) (j : Fin 31) : semArr (dsem k j) = k := by
  apply Fin.ext; have := k.isLt; have := j.isLt; show (6 + 31 * k.val + j.val - 6) / 31 % 4 = k.val; omega
theorem semIdx_dsem (k : Fin 4) (j : Fin 31) : semIdx (dsem k j) = j := by
  apply Fin.ext; have := k.isLt; have := j.isLt; show (6 + 31 * k.val + j.val - 6) % 31 = j.val; omega
theorem six_le_dsem (k : Fin 4) (j : Fin 31) : 6 ≤ (dsem k j).val := by show 6 ≤ 6 + 31 * k.val + j.val; omega
theorem dsem_inj {k k' : Fin 4} {j j' : Fin 31} (h : dsem k j = dsem k' j') : k = k' ∧ j = j' :=
  ⟨by rw [← semArr_dsem k j, h, semArr_dsem], by rw [← semIdx_dsem k j, h, semIdx_dsem]⟩

abbrev barC (c : Dev nD) : GSem nD τ sig := ((c : Thread nD τ), .reg barrier0)
abbrev dmaC (c : Dev nD) (k : Fin 4) (j : Fin 31) : GSem nD τ sig := ((c : Thread nD τ), .dma (dsem k j))

/-! ## Points-tos -/

abbrev accAt (c : Dev nD) (S : Finset S1024x1024.Idx) (q : PosShare TreeShare) (f : Vec F S1024x1024 .f32) : sProp 𝕄 :=
  ((c : Thread nD τ).loc cc0_scratch0) ↦[S]{q} f
abbrev outAt (c : Dev nD) (S : Finset S1024x1024.Idx) (q : PosShare TreeShare) (f : Vec F S1024x1024 .f32) : sProp 𝕄 :=
  ((c : Thread nD τ).loc cc0_stg5_0) ↦[S]{q} f
abbrev rsAt (c : Dev nD) (S : Finset S31x32x1024.Idx) (q : PosShare TreeShare) (f : Vec F S31x32x1024 .f32) : sProp 𝕄 :=
  ((c : Thread nD τ).loc cc0_scratch3) ↦[S]{q} f

theorem acc_view (c d : Dev nD) (q : PosShare TreeShare) (f : Vec F S1024x1024 .f32) :
    ((rowsM accM d).view.loc (c : Thread nD τ) ↦[(rowsM accM d).view.set]{q} f : sProp 𝕄) = accAt c (rowsOf d) q f := by rw [acc_set]
theorem out_view (c d : Dev nD) (q : PosShare TreeShare) (f : Vec F S1024x1024 .f32) :
    ((rowsM outM d).view.loc (c : Thread nD τ) ↦[(rowsM outM d).view.set]{q} f : sProp 𝕄) = outAt c (rowsOf d) q f := by rw [out_set]
theorem rs_view (c : Dev nD) (j : Fin 31) (q : PosShare TreeShare) (f : Vec F S31x32x1024 .f32) :
    ((slotOf rsM j).view.loc (c : Thread nD τ) ↦[(slotOf rsM j).view.set]{q} f : sProp 𝕄) = rsAt c (slotSet j) q f := by rw [rs_set]; rfl

/-- One of the 31 equal shares the own rows of the result are read with, one by each copy. -/
abbrev piece (j : Fin 31) : PosShare TreeShare := pieceOf fullShare 31 (by decide) j

/-! ## The schedule -/

variable (A : Dev nD → Vec F S1024x1024 .f32)

/-- Paid to p's barrier cell by the device e whose peer at offset i + 1 is p: e's slot i, e's copy of p's rows of the result. -/
def barPay (p : Dev nD) (i : Fin 31) : sProp 𝕄 :=
  iprop((∃ f, rsAt (peer p (opp i)) (slotSet (opp (opp i))) fullShare f) ∗ (∃ f, outAt (peer p (opp i)) (rowsOf p) fullShare f)
    ∗ reached ER (dmaC (peer p (opp i)) 1 (opp (opp i))) 0 ∗ reached ER (dmaC (peer p (opp i)) 3 (opp (opp i))) 0)

/-- Paid to the copy cells of device c. -/
def dmaPay (c : Dev nD) (k : Fin 4) (j : Fin 31) : sProp 𝕄 :=
  if k = 0 then accAt c (rowsOf (peer c (opp j))) fullShare (A c)
  else if k = 1 then rsAt c (slotSet j) fullShare (landed A c)
  else if k = 2 then outAt c (rowsOf c) (piece j) (outF A)
  else outAt c (rowsOf (peer c j)) fullShare (outF A)

/-- Duty sets by semaphore. -/
def dutiesOf : SemLoc sig → Finset (Fin 31)
  | .reg s => if s = barrier0 then Finset.univ else ∅
  | .dma s => if 6 ≤ s.val then {0} else ∅
def amountOf' : SemLoc sig → ℕ
  | .reg _ => 1
  | .dma _ => NC
theorem amountOf'_pos : ∀ s : SemLoc sig, 0 < amountOf' s
  | .reg _ => Nat.one_pos
  | .dma _ => NC_pos
def payOf (c : Dev nD) (i : Fin 31) : SemLoc sig → sProp 𝕄
  | .reg _ => barPay c i
  | .dma s => dmaPay A c (semArr s) (semIdx s)

def Rd : Rounds.Schedule (GSem nD τ sig) (Fin 31) 𝕄 where
  duties g r := if g.1.2 = .tc ∧ r = 0 then dutiesOf g.2 else ∅
  unitless _ := False
  amount g _ _ := amountOf' g.2
  payload g _ i := payOf A g.1.1 i g.2
  amount_pos g _ _ _ := amountOf'_pos g.2

instance barPay_storable (p : Dev nD) (i : Fin 31) : BI.Storable (upEmb : UEmb _ 𝕄) (barPay (F := F) p i) := by
  unfold barPay; infer_instance
instance dmaPay_storable (c : Dev nD) (k : Fin 4) (j : Fin 31) : BI.Storable (upEmb : UEmb _ 𝕄) (dmaPay A c k j) := by
  unfold dmaPay; (repeat' split) <;> infer_instance
instance Rd_payload_storable (g : GSem nD τ sig) (r : ℕ) (d : Fin 31) : BI.Storable (upEmb : UEmb _ 𝕄) ((Rd A).payload g r d) := by
  show BI.Storable upEmb (payOf A g.1.1 d g.2)
  cases g.2 <;> (unfold payOf; infer_instance)

section Facts

variable (c : Dev nD)

theorem duties_bar : (Rd A).duties (barC c) 0 = Finset.univ := by
  unfold Rd; dsimp only; rw [if_pos ⟨rfl, rfl⟩]; simp only [dutiesOf, if_true]
theorem duties_dma (k : Fin 4) (j : Fin 31) : (Rd A).duties (dmaC c k j) 0 = {0} := by
  unfold Rd; dsimp only; rw [if_pos ⟨rfl, rfl⟩]; simp only [dutiesOf, if_pos (six_le_dsem k j)]
theorem duties_later (g : GSem nD τ sig) : ∀ r, 1 ≤ r → (Rd A).duties g r = ∅ := fun r hr => by
  show (if _ then _ else _) = _; rw [if_neg (fun h => by omega)]
theorem expect_bar : (Rd A).expect (barC c) 0 = 31 := by
  unfold Schedule.expect Schedule.amountOf; rw [duties_bar]
  show (∑ _i : Fin 31, 1) = 31
  rw [Finset.sum_const, Finset.card_univ, Fintype.card_fin, smul_eq_mul, mul_one]
theorem expect_dma (k : Fin 4) (j : Fin 31) : (Rd A).expect (dmaC c k j) 0 = NC := by
  unfold Schedule.expect Schedule.amountOf; rw [duties_dma, Finset.sum_singleton]; rfl
theorem payload_bar (i : Fin 31) : (Rd A).payload (barC c) 0 i = barPay c i := rfl
theorem payload_dma (k : Fin 4) (j : Fin 31) (i : Fin 31) : (Rd A).payload (dmaC c k j) 0 i = dmaPay A c k j := by
  show dmaPay A c (semArr (dsem k j)) (semIdx (dsem k j)) = _; rw [semArr_dsem, semIdx_dsem]
theorem rest_bar : bigSep ((Rd A).duties (barC c) 0 \ ∅) (fun i => (Rd A).payload (barC c) 0 i) = bigSep Finset.univ fun i => barPay (F := F) c i := by
  rw [Finset.sdiff_empty, duties_bar]; rfl
theorem rest_dma (k : Fin 4) (j : Fin 31) :
    bigSep ((Rd A).duties (dmaC c k j) 0 \ ∅) (fun i => (Rd A).payload (dmaC c k j) 0 i) = dmaPay A c k j := by
  rw [Finset.sdiff_empty, duties_dma, bigSep_singleton, payload_dma]

end Facts

/-! ## Debts and levels -/

def debtBar (c : Dev nD) (l : List (Fin 31)) : CellTallies nD τ sig Unit := (l.map fun i => tallyAt (barC (peer c i)) () 1).sum
/-- The landing cells of array k that device c's copies at the offsets in l pay. -/
def debtDma (c : Dev nD) (k : Fin 4) (l : List (Fin 31)) : CellTallies nD τ sig Unit :=
  (l.map fun i => tallyAt (dmaC (peer c i) k (opp i)) () NC).sum

theorem debtBar_cons (c : Dev nD) (i : Fin 31) (l : List (Fin 31)) : debtBar c (i :: l) = debtBar c l + tallyAt (barC (peer c i)) () 1 := by
  unfold debtBar; rw [List.map_cons, List.sum_cons, add_comm]
theorem debtDma_cons (c : Dev nD) (k : Fin 4) (i : Fin 31) (l : List (Fin 31)) :
    debtDma c k (i :: l) = debtDma c k l + tallyAt (dmaC (peer c i) k (opp i)) () NC := by
  unfold debtDma; rw [List.map_cons, List.sum_cons, add_comm]
theorem debtBar_nil (c : Dev nD) : debtBar c [] = 0 := rfl
theorem debtDma_nil (c : Dev nD) (k : Fin 4) : debtDma c k [] = 0 := rfl

theorem add_pos_cases {a b : CellTallies nD τ sig Unit} {g : GSem nD τ sig} {u : Unit} (h : 0 < (a + b) g u) : 0 < a g u ∨ 0 < b g u := by
  rw [Pi.add_apply, Finsupp.add_apply] at h; omega
theorem tallyAt_pos {g' g : GSem nD τ sig} {u : Unit} {k : ℕ} (h : 0 < tallyAt g' () k g u) : g = g' := by
  rw [tallyAt_apply] at h
  split at h
  · next hg => exact hg.1
  · exact absurd h (Nat.lt_irrefl 0)
theorem debtBar_pos {c : Dev nD} {l : List (Fin 31)} {g : GSem nD τ sig} {u : Unit} (h : 0 < debtBar c l g u) : ∃ i, g = barC (peer c i) := by
  induction l with
  | nil => exact absurd h (Nat.lt_irrefl 0)
  | cons i l ih =>
    rw [debtBar_cons] at h
    rcases add_pos_cases h with h | h
    · exact ih h
    · exact ⟨i, tallyAt_pos h⟩
theorem debtDma_pos {c : Dev nD} {k : Fin 4} {l : List (Fin 31)} {g : GSem nD τ sig} {u : Unit} (h : 0 < debtDma c k l g u) :
    ∃ i, g = dmaC (peer c i) k (opp i) := by
  induction l with
  | nil => exact absurd h (Nat.lt_irrefl 0)
  | cons i l ih =>
    rw [debtDma_cons] at h
    rcases add_pos_cases h with h | h
    · exact ih h
    · exact ⟨i, tallyAt_pos h⟩

/-- What device c owes at launch: a unit to every peer's barrier, and both landing cells its copies to the peer pay. -/
def O₀ (c : Dev nD) : CellTallies nD τ sig Unit := debtBar c idx31 + (debtDma c 1 idx31 + debtDma c 3 idx31)

def L (g : GSem nD τ sig) : Finset Unit := if g.1.2 = .tc then {()} else ∅
/-- Barrier cells at 1, the first exchange's landing cells at 2, the second's at 3, everything else at 0. -/
def levOf : SemLoc sig → ℕ
  | .reg _ => 1
  | .dma s => if 6 ≤ s.val then (if semArr s = 1 then 2 else if semArr s = 3 then 3 else 0) else 0
def lv (g : GSem nD τ sig) (_ : Unit) : ℕ := levOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_dma (c : Dev nD) (k : Fin 4) (j : Fin 31) : lv (dmaC c k j) () = if k = 1 then 2 else if k = 3 then 3 else 0 := by
  show (if _ then _ else _) = _; rw [if_pos (six_le_dsem k j), semArr_dsem]

theorem O₀_pos {c : Dev nD} {g : GSem nD τ sig} {u : Unit} (h : 0 < O₀ c g u) :
    (∃ i, g = barC (peer c i)) ∨ (∃ i, g = dmaC (peer c i) 1 (opp i)) ∨ ∃ i, g = dmaC (peer c i) 3 (opp i) := by
  rcases add_pos_cases h with h | h
  · exact .inl (debtBar_pos h)
  · rcases add_pos_cases h with h | h
    · exact .inr (.inl (debtDma_pos h))
    · exact .inr (.inr (debtDma_pos h))

/-- Waiting on the barrier while the landing cells of both exchanges are owed. -/
theorem mayWait_bar (c : Dev nD) :
    (levAts L lv : sProp 𝕄) ⊢ MayWait (c : Thread nD τ) (.reg barrier0) () (debtDma c 1 idx31 + debtDma c 3 idx31) :=
  MayOwe.of_cut (L := L) (lev := lv) 1 (fun p hp => by rw [Finset.mem_singleton.mp hp, L_tc]; exact Finset.mem_singleton_self _)
    (fun g u hg => by
      rcases add_pos_cases hg with h | h <;> obtain ⟨i, rfl⟩ := debtDma_pos h <;> (rw [L_tc]; exact Finset.mem_singleton_self _))
    (fun p hp => by rw [Finset.mem_singleton.mp hp]; exact le_refl 1)
    (fun g u hg => by
      rcases add_pos_cases hg with h | h <;> obtain ⟨i, rfl⟩ := debtDma_pos h <;> rw [lv_dma] <;> decide)
/-- Waiting on a landing cell of the first exchange while the second's are owed. -/
theorem mayWait_rs (c : Dev nD) (j : Fin 31) :
    (levAts L lv : sProp 𝕄) ⊢ MayWait (c : Thread nD τ) (.dma (dsem 1 j)) () (debtDma c 3 idx31) :=
  MayOwe.of_cut (L := L) (lev := lv) 2 (fun p hp => by rw [Finset.mem_singleton.mp hp, L_tc]; exact Finset.mem_singleton_self _)
    (fun g u hg => by obtain ⟨i, rfl⟩ := debtDma_pos hg; rw [L_tc]; exact Finset.mem_singleton_self _)
    (fun p hp => by rw [Finset.mem_singleton.mp hp, lv_dma]; decide)
    (fun g u hg => by obtain ⟨i, rfl⟩ := debtDma_pos hg; rw [lv_dma]; decide)

/-! ## The rule of a loop -/

/-- A loop of single operations: each takes its own resources and gives its own back, and all pass one state on. -/
theorem each_wp (c : Dev nD) {α : Type} (f : Fin 31 → Eff F PUnit) (kp : Prog (Eff F) α) (Kt : α → sProp 𝕄) (R : sProp 𝕄) [Persistent R]
    (P Q : Fin 31 → sProp 𝕄) (S : List (Fin 31) → sProp 𝕄)
    (hstep : ∀ i l' (k : Prog (Eff F) α), iprop(R ∗ P i ∗ S (i :: l') ∗ ((Q i ∗ S l') -∗ wp frame (wpE (defs₀ (F := F)) Variants.none (c : Thread nD τ) none) Set.univ k Kt))
      ⊢ wp frame (wpE (defs₀ (F := F)) Variants.none (c : Thread nD τ) none) Set.univ (.op (f i) fun _ => k) Kt) :
    ∀ l : List (Fin 31), l.Nodup → iprop(R ∗ bigSep l.toFinset P ∗ S l ∗ ((bigSep l.toFinset Q ∗ S []) -∗ wp frame (wpE (defs₀ (F := F)) Variants.none (c : Thread nD τ) none) Set.univ kp Kt))
      ⊢ wp frame (wpE (defs₀ (F := F)) Variants.none (c : Thread nD τ) none) Set.univ (each l f kp) Kt
  | [], _ => by
    show _ ⊢ wp frame _ Set.univ kp Kt
    rw [List.toFinset_nil, bigSep_empty, bigSep_empty]
    iintro ⟨-, -, HS, Hk⟩
    iapply Hk
    isplitr; · iempintro
    iexact HS
  | i :: l, hl => by
    have hl' := List.nodup_cons.mp hl
    have hi : i ∉ l.toFinset := fun h => hl'.1 (List.mem_toFinset.mp h)
    show _ ⊢ wp frame _ Set.univ (.op (f i) fun _ => each l f kp) Kt
    rw [List.toFinset_cons, show bigSep (insert i l.toFinset) P = iprop(P i ∗ bigSep l.toFinset P) from bigSep_insert hi,
      show bigSep (insert i l.toFinset) Q = iprop(Q i ∗ bigSep l.toFinset Q) from bigSep_insert hi]
    iintro ⟨#HR, ⟨HP, HPs⟩, HS, Hk⟩
    iapply (hstep i l (each l f kp))
    isplitr; · iexact HR
    isplitl [HP]; · iexact HP
    isplitl [HS]; · iexact HS
    iintro ⟨HQ, HS⟩
    iapply (each_wp c f kp Kt R P Q S hstep l hl'.2)
    isplitr; · iexact HR
    isplitl [HPs]; · iexact HPs
    isplitl [HS]; · iexact HS
    iintro ⟨HQs, HS⟩
    iapply Hk
    isplitr [HS]
    · isplitl [HQ] <;> iassumption
    iexact HS

theorem idx31_nodup : idx31.Nodup := by decide
theorem idx31_univ : idx31.toFinset = (Finset.univ : Finset (Fin 31)) := by decide

end Cert.KernelIdeal.Body

end
-- ==== Proof.Compute.lean ====
/-
  The part of the body between the barrier and the first copies: the projection, the eight heads and the output
  projection, on one device. It leaves the accumulator at `accOf` of the staged inputs.
-/
module

public import proofs.«01_k».proof.Proof.Sched

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

/-- The head whose columns an element is in. -/
def headOf (x : S1024x1024.Idx) : Fin 8 := ⟨(x 1).val / 128, by have := lt1024 x 1; omega⟩
/-- An element's place within its head's columns. -/
def inHead (x : S1024x1024.Idx) : S1024x128.Idx := fun a => match a with
  | ⟨0, _⟩ => ⟨(x 0).val, lt1024 x 0⟩
  | ⟨1, _⟩ => ⟨(x 1).val % 128, Nat.mod_lt _ (by decide)⟩

/-- Head h's columns of the queries, and its keys or values. -/
abbrev qCols (q : Vec F S1024x1024 .f32) (h : Fin 8) : Vec F S1024x128 .f32 := fun y => q ((headRect h).emb y)
abbrev kvAt (k : Vec F S8x1024x128 .f32) (h : Fin 8) : Vec F S1x1024x128 .f32 := fun y => k ((kvRect h).emb y)

/-- One head's context. -/
def headC (q : Vec F S1024x1024 .f32) (k v : Vec F S8x1024x128 .f32) (h : Fin 8) : FVec F S1024x128 .f32 :=
  headV (qCols q h) (kvAt k h) (kvAt v h)
/-- The context of all heads, side by side. -/
def ctxOf (q : Vec F S1024x1024 .f32) (k v : Vec F S8x1024x128 .f32) : Vec F S1024x1024 .f32 := fun x => headC q k v (headOf x) (inHead x)
/-- The accumulator: the context of the projected input, projected out. -/
def accOf (x w : Vec F S1024x1024 .f32) (k v : Vec F S8x1024x128 .f32) (wo : Vec F S1024x1024 .f32) : Vec F S1024x1024 .f32 :=
  k0_pay25 (ctxOf (k0_pay1 x w) k v) wo

/-! ## Places -/

theorem head_emb0 (h : Fin 8) (y : S1024x128.Idx) : ((headRect h).emb y 0).val = (y 0).val := by
  show 0 + 1 * (y 0).val = _; omega
theorem head_emb1 (h : Fin 8) (y : S1024x128.Idx) : ((headRect h).emb y 1).val = 128 * h.val + (y 1).val := by
  show 128 * h.val + 1 * (y 1).val = _; omega
theorem headOf_emb (h : Fin 8) (y : S1024x128.Idx) : headOf ((headRect h).emb y) = h := by
  have h1 : (y 1).val < 128 := (y 1).isLt
  apply Fin.ext; show ((headRect h).emb y 1).val / 128 = _; rw [head_emb1]; omega
theorem inHead_emb (h : Fin 8) (y : S1024x128.Idx) : inHead ((headRect h).emb y) = y := by
  have h1 : (y 1).val < 128 := (y 1).isLt
  exact idx2_ext (head_emb0 h y) (by show ((headRect h).emb y 1).val % 128 = _; rw [head_emb1]; omega)
theorem emb_inHead (x : S1024x1024.Idx) : (headRect (headOf x)).emb (inHead x) = x :=
  idx2_ext (head_emb0 _ _) (by rw [head_emb1]; show 128 * ((x 1).val / 128) + (x 1).val % 128 = _; omega)
theorem whole_emb (x : S1024x1024.Idx) : wholeRect.emb x = x :=
  idx2_ext (by show 0 + 1 * (x 0).val = _; omega) (by show 0 + 1 * (x 1).val = _; omega)

/-- One head's store: its columns at the context, the others as they were. -/
theorem head_write (f : Vec F S1024x1024 .f32) (h : Fin 8) (w : FVec F S1024x128 .f32) (x : S1024x1024.Idx) :
    (ctxM.access (headRect h)).write (Elt F) f w Finset.univ x = if headOf x = h then w (inHead x) else f x := by
  split
  · next e =>
    subst e
    have hx : (ctxM.access (headRect (headOf x))).emb (inHead x) = x := emb_inHead x
    refine (congrArg _ hx.symm).trans ?_
    exact View.write_emb_of_mem (v := ctxM.access (headRect (headOf x))) _ _ (Finset.mem_univ (inHead x))
  · next e =>
    refine View.write_of_not_mem (v := ctxM.access (headRect h)) _ _ _ fun hm => e ?_
    obtain ⟨y, -, rfl⟩ := Finset.mem_map.mp hm
    exact headOf_emb h y

theorem q_write (f w : Vec F S1024x1024 .f32) : (qM.access wholeRect).write (Elt F) f w Finset.univ = w := by
  funext x
  refine (congrArg _ (whole_emb x).symm).trans ?_
  refine (View.write_emb_of_mem (v := qM.access wholeRect) _ _ (Finset.mem_univ x)).trans ?_
  rfl
theorem acc_write (f w : Vec F S1024x1024 .f32) : (accM.access wholeRect).write (Elt F) f w Finset.univ = w := by
  funext x
  refine (congrArg _ (whole_emb x).symm).trans ?_
  refine (View.write_emb_of_mem (v := accM.access wholeRect) _ _ (Finset.mem_univ x)).trans ?_
  rfl
theorem comp_whole (f : Vec F S1024x1024 .f32) : (fun x => f (wholeRect.emb x)) = f := funext fun x => congrArg f (whole_emb x)

/-! ## The run -/

abbrev pt (c : Dev nD) (b : Ref sig .tc) (f : b.ty.Contents (Elt F)) : sProp 𝕄 := ((c : Thread nD τ).loc b) ↦{fullShare} f

abbrev 𝒱₀ : Variants := Variants.none
abbrev wpc (c : Dev nD) {α : Type} (p : Prog (Eff F) α) (Kt : α → sProp 𝕄) : sProp 𝕄 :=
  wp frame (wpE (defs₀ (F := F)) 𝒱₀ (c : Thread nD τ) none) Set.univ p Kt

abbrev xM : Memref sig .tc .vmem S1024x1024 .f32 := Memref.whole cc0_stg0_0
abbrev wqM : Memref sig .tc .vmem S1024x1024 .f32 := Memref.whole cc0_stg1_0
abbrev kM : Memref sig .tc .vmem S8x1024x128 .f32 := Memref.whole cc0_stg2_0
abbrev vM : Memref sig .tc .vmem S8x1024x128 .f32 := Memref.whole cc0_stg3_0
abbrev woM : Memref sig .tc .vmem S1024x1024 .f32 := Memref.whole cc0_stg4_0

variable (c : Dev nD)

theorem heads_wp {α : Type} (Kt : α → sProp 𝕄) (q : Vec F S1024x1024 .f32) (kk vv : Vec F S8x1024x128 .f32) (k : Prog (Eff F) α) : ∀ (l : List (Fin 8)) (f : Vec F S1024x1024 .f32),
    (∀ x, headOf x ∉ l → f x = ctxOf q kk vv x) →
    iprop(pt c cc0_scratch1 q ∗ pt c cc0_stg2_0 kk ∗ pt c cc0_stg3_0 vv ∗ pt c cc0_scratch2 f
        ∗ ((pt c cc0_scratch1 q ∗ pt c cc0_stg2_0 kk ∗ pt c cc0_stg3_0 vv ∗ pt c cc0_scratch2 (ctxOf q kk vv)) -∗ wpc c k Kt))
      ⊢ wpc c (l.foldr (fun h p => headP kM vM qM ctxM h p) k) Kt
  | [], f, hf => by
    obtain rfl : f = ctxOf q kk vv := funext fun x => hf x (List.not_mem_nil)
    show _ ⊢ wpc c k Kt
    iintro ⟨Hq, Hk, Hv, Hc, HK⟩
    iapply HK
    isplitl [Hq]; · iexact Hq
    isplitl [Hk]; · iexact Hk
    isplitl [Hv] <;> iassumption
  | h :: l, f, hf => by
    show _ ⊢ wpc c (headP kM vM qM ctxM h (l.foldr (fun h p => headP kM vM qM ctxM h p) k)) Kt
    unfold headP
    iintro ⟨Hq, Hk, Hv, Hc, HK⟩
    iapply (wp_load_rect 𝒱₀ (c : Thread nD τ) none Set.univ (m := qM) (r := headRect h) (S := Finset.univ) (q := fullShare) (f := q) (Finset.subset_univ _)) $$ Hq
    iintro Hq
    iapply (wp_load_rect 𝒱₀ (c : Thread nD τ) none Set.univ (m := kM) (r := kvRect h) (S := Finset.univ) (q := fullShare) (f := kk) (Finset.subset_univ _)) $$ Hk
    iintro Hk
    iapply (wp_load_rect 𝒱₀ (c : Thread nD τ) none Set.univ (m := vM) (r := kvRect h) (S := Finset.univ) (q := fullShare) (f := vv) (Finset.subset_univ _)) $$ Hv
    iintro Hv
    iapply (wp_load_rect 𝒱₀ (c : Thread nD τ) none Set.univ (m := ctxM) (r := headRect h) (S := Finset.univ) (q := fullShare) (f := f) (Finset.subset_univ _)) $$ Hc
    iintro Hc
    iapply (wp_store 𝒱₀ (c : Thread nD τ) none Set.univ (m := ctxM) (r := headRect h) (S := Finset.univ) (f := f) (Finset.subset_univ _)) $$ Hc
    iintro Hc
    iapply (heads_wp Kt q kk vv k l ((ctxM.access (headRect h)).write (Elt F) f (headC q kk vv h) Finset.univ) (fun x hx => by
      rw [head_write]
      split
      · next e => subst e; rfl
      · next e => exact hf x (fun hm => by rcases List.mem_cons.mp hm with h' | h'; exacts [e h', hx h'])))
    isplitl [Hq]; · iexact Hq
    isplitl [Hk]; · iexact Hk
    isplitl [Hv]; · iexact Hv
    isplitl [Hc]; · iexact Hc
    iexact HK

theorem idx8_all (h : Fin 8) : h ∈ idx8 := by revert h; decide

/-- What the run needs and gives back, but for the accumulator. -/
def inputs (x w : Vec F S1024x1024 .f32) (kk vv : Vec F S8x1024x128 .f32) (wo : Vec F S1024x1024 .f32) : sProp 𝕄 :=
  iprop(pt c cc0_stg0_0 x ∗ pt c cc0_stg1_0 w ∗ pt c cc0_stg2_0 kk ∗ pt c cc0_stg3_0 vv ∗ pt c cc0_stg4_0 wo
    ∗ (∃ f, pt c cc0_scratch1 f) ∗ ∃ f, pt c cc0_scratch2 f)

theorem compute_wp {α : Type} (Kt : α → sProp 𝕄) (x w : Vec F S1024x1024 .f32) (kk vv : Vec F S8x1024x128 .f32) (wo fa : Vec F S1024x1024 .f32) (k : Prog (Eff F) α) :
    iprop(inputs c x w kk vv wo ∗ pt c cc0_scratch0 fa
        ∗ ((inputs c x w kk vv wo ∗ pt c cc0_scratch0 (accOf x w kk vv wo)) -∗ wpc c k Kt))
      ⊢ wpc c (computeP xM wqM kM vM woM accM qM ctxM k) Kt := by
  unfold computeP inputs
  iintro ⟨⟨Hx, Hw, Hk, Hv, Ho, ⟨%fq, Hq⟩, ⟨%fc, Hc⟩⟩, Ha, HK⟩
  iapply (wp_load_rect 𝒱₀ (c : Thread nD τ) none Set.univ (m := xM) (r := wholeRect) (S := Finset.univ) (q := fullShare) (f := x) (Finset.subset_univ _)) $$ Hx
  iintro Hx
  iapply (wp_load_rect 𝒱₀ (c : Thread nD τ) none Set.univ (m := wqM) (r := wholeRect) (S := Finset.univ) (q := fullShare) (f := w) (Finset.subset_univ _)) $$ Hw
  iintro Hw
  iapply (wp_load_rect 𝒱₀ (c : Thread nD τ) none Set.univ (m := qM) (r := wholeRect) (S := Finset.univ) (q := fullShare) (f := fq) (Finset.subset_univ _)) $$ Hq
  iintro Hq
  iapply (wp_store 𝒱₀ (c : Thread nD τ) none Set.univ (m := qM) (r := wholeRect) (S := Finset.univ) (f := fq) (Finset.subset_univ _)) $$ Hq
  iintro Hq
  ihave Hq := (Entails.of_eq (show ((qM.access wholeRect).loc (c : Thread nD τ) ↦{fullShare} (qM.access wholeRect).write (Elt F) fq
      (k0_pay1 ((xM.access wholeRect).read (Elt F) x) ((wqM.access wholeRect).read (Elt F) w)) Finset.univ : sProp 𝕄) = pt c cc0_scratch1 (k0_pay1 x w) from by
    have e : (qM.access wholeRect).write (Elt F) fq (k0_pay1 ((xM.access wholeRect).read (Elt F) x) ((wqM.access wholeRect).read (Elt F) w)) Finset.univ = k0_pay1 x w :=
      (q_write fq _).trans (congrArg₂ k0_pay1 (comp_whole x) (comp_whole w))
    rw [e])) $$ Hq
  iapply (heads_wp c Kt (k0_pay1 x w) kk vv _ idx8 fc (fun y hy => absurd (idx8_all _) hy))
  isplitl [Hq]; · iexact Hq
  isplitl [Hk]; · iexact Hk
  isplitl [Hv]; · iexact Hv
  isplitl [Hc]; · iexact Hc
  iintro ⟨Hq, Hk, Hv, Hc⟩
  iapply (wp_load_rect 𝒱₀ (c : Thread nD τ) none Set.univ (m := ctxM) (r := wholeRect) (S := Finset.univ) (q := fullShare) (f := ctxOf (k0_pay1 x w) kk vv) (Finset.subset_univ _)) $$ Hc
  iintro Hc
  iapply (wp_load_rect 𝒱₀ (c : Thread nD τ) none Set.univ (m := woM) (r := wholeRect) (S := Finset.univ) (q := fullShare) (f := wo) (Finset.subset_univ _)) $$ Ho
  iintro Ho
  iapply (wp_load_rect 𝒱₀ (c : Thread nD τ) none Set.univ (m := accM) (r := wholeRect) (S := Finset.univ) (q := fullShare) (f := fa) (Finset.subset_univ _)) $$ Ha
  iintro Ha
  iapply (wp_store 𝒱₀ (c : Thread nD τ) none Set.univ (m := accM) (r := wholeRect) (S := Finset.univ) (f := fa) (Finset.subset_univ _)) $$ Ha
  iintro Ha
  iapply HK
  isplitr [Ha]
  · isplitl [Hx]; · iexact Hx
    isplitl [Hw]; · iexact Hw
    isplitl [Hk]; · iexact Hk
    isplitl [Hv]; · iexact Hv
    isplitl [Ho]; · iexact Ho
    isplitl [Hq]; · iexists _; iexact Hq
    iexists _; iexact Hc
  · iapply (Entails.of_eq (show ((accM.access wholeRect).loc (c : Thread nD τ) ↦{fullShare} (accM.access wholeRect).write (Elt F) fa
      (k0_pay25 ((ctxM.access wholeRect).read (Elt F) (ctxOf (k0_pay1 x w) kk vv)) ((woM.access wholeRect).read (Elt F) wo)) Finset.univ : sProp 𝕄)
        = pt c cc0_scratch0 (accOf x w kk vv wo) from by
      have e : (accM.access wholeRect).write (Elt F) fa (k0_pay25 ((ctxM.access wholeRect).read (Elt F) (ctxOf (k0_pay1 x w) kk vv)) ((woM.access wholeRect).read (Elt F) wo)) Finset.univ
          = accOf x w kk vv wo :=
        (acc_write fa _).trans (congrArg₂ k0_pay25 (comp_whole (ctxOf (k0_pay1 x w) kk vv)) (comp_whole wo))
      rw [e])) $$ Ha

end Cert.KernelIdeal.Body

end
-- ==== Proof.Steps.lean ====
/-
  One step of each of the six loops of the body: what it takes, what it gives back, and what is still owed after it.
-/
module

public import proofs.«01_k».proof.Proof.Compute

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The records -/

def barEmb : Dev nD ↪ GSem nD τ sig := ⟨fun c => barC c, fun _ _ h => congrArg (fun g : GSem nD τ sig => g.1.1) h⟩
def dmaEmb : Dev nD × (Fin 4 × Fin 31) ↪ GSem nD τ sig :=
  ⟨fun p => dmaC p.1 p.2.1 p.2.2, fun p p' h => by
    have h1 : p.1 = p'.1 := congrArg (fun g : GSem nD τ sig => g.1.1) h
    have h2 : dsem p.2.1 p.2.2 = dsem p'.2.1 p'.2.2 := SemLoc.dma.inj (congrArg Prod.snd h)
    exact Prod.ext h1 (Prod.ext (dsem_inj h2).1 (dsem_inj h2).2)⟩
abbrev barCells : Finset (GSem nD τ sig) := Finset.univ.map barEmb
abbrev dmaCells : Finset (GSem nD τ sig) := Finset.univ.map dmaEmb

theorem bar_mem (c : Dev nD) : barC c ∈ (barCells ∪ dmaCells : Finset (GSem nD τ sig)) :=
  Finset.mem_union_left _ (Finset.mem_map_of_mem barEmb (Finset.mem_univ c))
theorem dma_mem (c : Dev nD) (k : Fin 4) (j : Fin 31) : dmaC c k j ∈ (barCells ∪ dmaCells : Finset (GSem nD τ sig)) :=
  Finset.mem_union_right _ (Finset.mem_map_of_mem dmaEmb (Finset.mem_univ (c, (k, j))))

variable (A : Dev nD → Vec F S1024x1024 .f32)

/-- The cells' invariants under one map of names, and that round 0 of every barrier cell is reached. -/
def records (κ : GSem nD τ sig → ℕ) : sProp 𝕄 :=
  iprop((bigSep (barCells ∪ dmaCells) fun g => cellInv ER (Rd A) (κ g) g) ∗ bigSep barCells fun g => reached ER g 0)
instance records_persistent (κ : GSem nD τ sig → ℕ) : BI.Persistent (records A κ) := by unfold records; infer_instance

theorem inv_of (κ : GSem nD τ sig → ℕ) {g : GSem nD τ sig} (hg : g ∈ (barCells ∪ dmaCells : Finset (GSem nD τ sig))) :
    records A κ ⊢ cellInv ER (Rd A) (κ g) g := by
  unfold records
  iintro ⟨H, -⟩
  iapply (show (bigSep (barCells ∪ dmaCells) fun g => (cellInv ER (Rd A) (κ g) g : sProp 𝕄)) ⊢ cellInv ER (Rd A) (κ g) g from bigSep_elim hg) $$ H
theorem reached_bar (κ : GSem nD τ sig → ℕ) (c : Dev nD) : records A κ ⊢ reached ER (barC c) 0 := by
  unfold records
  iintro ⟨-, H⟩
  iapply (show (bigSep barCells fun g => (reached ER g 0 : sProp 𝕄)) ⊢ reached ER (barC c) 0 from
    bigSep_elim (Finset.mem_map_of_mem barEmb (Finset.mem_univ c))) $$ H

/-- With the levels, and that round 0 of each of the device's own copy cells is reached. -/
def recs (κ : GSem nD τ sig → ℕ) (c : Dev nD) : sProp 𝕄 :=
  iprop(records A κ ∗ levAts L lv ∗ bigSep Finset.univ fun p : Fin 4 × Fin 31 => reached ER (dmaC c p.1 p.2) 0)
instance recs_persistent (κ : GSem nD τ sig → ℕ) (c : Dev nD) : BI.Persistent (recs A κ c) := by unfold recs; infer_instance

theorem recs_inv (κ : GSem nD τ sig → ℕ) (c : Dev nD) {g : GSem nD τ sig} (hg : g ∈ (barCells ∪ dmaCells : Finset (GSem nD τ sig))) :
    recs A κ c ⊢ cellInv ER (Rd A) (κ g) g := by
  unfold recs; iintro ⟨H, -, -⟩; iapply (inv_of A κ hg) $$ H
theorem recs_bar (κ : GSem nD τ sig → ℕ) (c d : Dev nD) : recs A κ c ⊢ reached ER (barC d) 0 := by
  unfold recs; iintro ⟨H, -, -⟩; iapply (reached_bar A κ d) $$ H
theorem recs_lev (κ : GSem nD τ sig → ℕ) (c : Dev nD) : recs A κ c ⊢ levAts L lv := by
  unfold recs; iintro ⟨-, H, -⟩; iexact H
theorem recs_dma (κ : GSem nD τ sig → ℕ) (c : Dev nD) (k : Fin 4) (j : Fin 31) : recs A κ c ⊢ reached ER (dmaC c k j) 0 := by
  unfold recs; iintro ⟨-, -, H⟩
  iapply (show (bigSep Finset.univ fun p : Fin 4 × Fin 31 => (reached ER (dmaC c p.1 p.2) 0 : sProp 𝕄)) ⊢ reached ER (dmaC c k j) 0 from
    bigSep_elim (Finset.mem_univ (k, j))) $$ H

/-! ## The steps -/

theorem debtBar_step (c : Dev nD) (O : CellTallies nD τ sig Unit) (i : Fin 31) (l : List (Fin 31)) :
    debtBar c (i :: l) + O = debtBar c l + O + tallyAt (barC (peer c i)) () 1 := by rw [debtBar_cons, add_right_comm]
theorem debtDma_step (c : Dev nD) (k : Fin 4) (O : CellTallies nD τ sig Unit) (i : Fin 31) (l : List (Fin 31)) :
    debtDma c k (i :: l) + O = debtDma c k l + O + tallyAt (dmaC (peer c i) k (opp i)) () NC := by rw [debtDma_cons, add_right_comm]

variable (κ : GSem nD τ sig → ℕ) (c : Dev nD)

/-- The slot and the rows a peer will copy into. -/
def lendP (i : Fin 31) : sProp 𝕄 :=
  iprop((∃ f, rsAt c (slotSet i) fullShare f) ∗ ∃ f, outAt c (rowsOf (peer c i)) fullShare f)
/-- The signal to the peer at offset i + 1 takes its duty's token and what the peer will copy into. -/
def sigP (i : Fin 31) : sProp 𝕄 := iprop(dutyTok ER (barC (peer c i)) 0 i ∗ lendP c i)
def sigS (O : CellTallies nD τ sig Unit) (W : Waits sig Unit) (l : List (Fin 31)) : sProp 𝕄 := owes (c : Thread nD τ) (debtBar c l + O) W

theorem sig_step {α : Type} (Kt : α → sProp 𝕄) (O : CellTallies nD τ sig Unit) (W : Waits sig Unit) (i : Fin 31) (l' : List (Fin 31)) (k : Prog (Eff F) α) :
    iprop(recs A κ c ∗ sigP c i ∗ sigS c O W (i :: l') ∗ ((emp ∗ sigS c O W l') -∗ wpc c k Kt)) ⊢ wpc c (.op (signalE c i) fun _ => k) Kt := by
  unfold sigP sigS lendP
  iintro ⟨#HR, ⟨Ht, Hrs, Hout⟩, HO, Hk⟩
  iapply (Rounds.wp_signal 𝒱₀ ER (Rd A) (c : Thread nD τ) none (dst := (peer c i : Thread nD τ)) (sem := barrier0) (r := 0) (d := i) (k' := 1) (κ := κ (barC (peer c i)))
      (by rw [duties_bar]; exact Finset.mem_univ _) rfl () (debtBar c l' + O) (debtBar_step c O i l')) $$ [HO Ht Hrs Hout]
  · isplitr; · iapply (recs_inv A κ c (bar_mem _)) $$ HR
    isplitl [HO]; · iexact HO
    isplitl [Ht]; · iexact Ht
    isplitl [Hrs Hout]
    · rw [payload_bar]; unfold barPay; rw [peer_peer, opp_opp]
      isplitl [Hrs]; · iexact Hrs
      isplitl [Hout]; · iexact Hout
      isplitr; · iapply (recs_dma A κ c 1 i) $$ HR
      iapply (recs_dma A κ c 3 i) $$ HR
    iapply (recs_bar A κ c _) $$ HR
  iintro HO
  iapply Hk
  isplitr; · iempintro
  iexact HO

/-- What the peer at offset i + 1 handed over at the barrier. -/
def gotP (i : Fin 31) : sProp 𝕄 :=
  iprop((∃ f, rsAt (peer c i) (slotSet (opp i)) fullShare f) ∗ (∃ f, outAt (peer c i) (rowsOf c) fullShare f)
    ∗ reached ER (dmaC (peer c i) 1 (opp i)) 0 ∗ reached ER (dmaC (peer c i) 3 (opp i)) 0)
theorem barPay_opp (i : Fin 31) : barPay (F := F) c (opp i) = gotP c i := by unfold barPay gotP; rw [opp_opp]

/-- The tokens of a copy of exchange k (k the landing array, ks the sending one) at offset i + 1. -/
def cpToks (ks k : Fin 4) (i : Fin 31) : sProp 𝕄 :=
  iprop(dutyTok ER (dmaC c ks (opp i)) 0 0 ∗ dutyTok ER (dmaC (peer c i) k (opp i)) 0 0)
def cpS (k : Fin 4) (O : CellTallies nD τ sig Unit) (W : Waits sig Unit) (l : List (Fin 31)) : sProp 𝕄 := owes (c : Thread nD τ) (debtDma c k l + O) W

def rsP (i : Fin 31) : sProp 𝕄 :=
  iprop(accAt c (rowsOf (peer c i)) fullShare (A c) ∗ cpToks c 0 1 i ∗ (∃ f, rsAt (peer c i) (slotSet (opp i)) fullShare f)
    ∗ reached ER (dmaC (peer c i) 1 (opp i)) 0)
def credQ (ks : Fin 4) (i : Fin 31) : sProp 𝕄 := cred (tallyAt (dmaC c ks (opp i)) () NC)

theorem rs_landed (d : Dev nD) (j : Fin 31) (fd : Vec F S31x32x1024 .f32) :
    ((slotOf rsM j).view.loc (d : Thread nD τ) ↦[(slotOf rsM j).view.set]{fullShare}
        (slotOf rsM j).view.write (Elt F) fd ((rowsM accM d).view.read (Elt F) (A (peer d j))) Finset.univ : sProp 𝕄)
      = rsAt d (slotSet j) fullShare (landed A d) :=
  (rs_view d j fullShare _).trans (pointsTo_congr fun i hi => slot_write A d j fd i hi)

theorem rs_landed' (c : Dev nD) (i : Fin 31) (fd : Vec F S31x32x1024 .f32) :
    ((slotOf rsM (opp i)).view.loc (peer c i : Thread nD τ) ↦[(slotOf rsM (opp i)).view.set]{fullShare}
        (slotOf rsM (opp i)).view.write (Elt F) fd ((rowsM accM (peer c i)).view.read (Elt F) (A c)) Finset.univ : sProp 𝕄)
      = rsAt (peer c i) (slotSet (opp i)) fullShare (landed A (peer c i)) := by
  have h := rs_landed A (peer c i) (opp i) fd
  rwa [peer_peer] at h

theorem dmaPay_0 (j : Fin 31) : dmaPay A c 0 j = accAt c (rowsOf (peer c (opp j))) fullShare (A c) := rfl
theorem dmaPay_1 (j : Fin 31) : dmaPay A c 1 j = rsAt c (slotSet j) fullShare (landed A c) := rfl
theorem dmaPay_2 (j : Fin 31) : dmaPay A c 2 j = outAt c (rowsOf c) (piece j) (outF A) := rfl
theorem dmaPay_3 (j : Fin 31) : dmaPay A c 3 j = outAt c (rowsOf (peer c j)) fullShare (outF A) := rfl

theorem rsSendE_eq (i : Fin 31) : (rsSendE accM rsM cc0_scratch4 cc0_scratch5 c i : Eff F PUnit)
    = .enqueueDma (rowsM accM (peer c i)) (.remote (Dev.tc (peer c i)) (slotOf rsM (opp i)) (.dma (dsem 0 (opp i)))) (.dma (dsem 1 (opp i)))
    (View.wordExact_bits rfl) ((View.wordExact_bits rfl).reshape _ _) ⟨⟨rfl, Or.inl rfl⟩, trivial⟩ := by
  unfold rsSendE
  congr 1
  · exact peerRows_eq accM c i
  · rw [sem4_eq]
  · rw [sem5_eq]

theorem rs_step {α : Type} (Kt : α → sProp 𝕄) (O : CellTallies nD τ sig Unit) (W : Waits sig Unit) (i : Fin 31) (l' : List (Fin 31)) (k : Prog (Eff F) α) :
    iprop(recs A κ c ∗ rsP A c i ∗ cpS c 1 O W (i :: l') ∗ ((credQ c 0 i ∗ cpS c 1 O W l') -∗ wpc c k Kt))
      ⊢ wpc c (.op (rsSendE accM rsM cc0_scratch4 cc0_scratch5 c i) fun _ => k) Kt := by
  rw [rsSendE_eq]
  unfold rsP cpS credQ cpToks
  iintro ⟨#HR, ⟨Ha, ⟨Ht, Ht'⟩, ⟨%fd, Hs⟩, #Hr⟩, HO, Hk⟩
  iapply (Rounds.wp_send_pointsTo 𝒱₀ ER (Rd A) (c : Thread nD τ) none (c' := (peer c i : Thread nD τ)) (src := rowsM accM (peer c i)) (dst := slotOf rsM (opp i))
      (sS := .dma (dsem 0 (opp i))) (sem := .dma (dsem 1 (opp i))) (q := fullShare) (fs := A c) (κ₁ := κ (dmaC c 0 (opp i))) (κ₂ := κ (dmaC (peer c i) 1 (opp i)))
      (r₁ := 0) (r₂ := 0) (d₁ := 0) (d₂ := 0) (fd := fd)
      (by rw [duties_dma]; exact Finset.mem_singleton_self _) (by rw [duties_dma]; exact Finset.mem_singleton_self _)
      () () NC rfl rfl rfl (debtDma c 1 l' + O) (debtDma_step c _ O i l')
      (by rw [payload_dma, dmaPay_0, opp_opp]; exact Entails.of_eq (acc_view c (peer c i) fullShare (A c)))
      (by rw [payload_dma, dmaPay_1]; exact Entails.of_eq (rs_landed' A c i fd))) $$ [Ha Hs HO Ht Ht']
  · isplitr; · iapply (recs_inv A κ c (dma_mem _ _ _)) $$ HR
    isplitr; · iapply (recs_inv A κ c (dma_mem _ _ _)) $$ HR
    isplitl [Ha]; · iapply (Entails.of_eq (acc_view c (peer c i) fullShare (A c)).symm) $$ Ha
    isplitl [Hs]; · iapply (Entails.of_eq (rs_view (peer c i) (opp i) fullShare fd).symm) $$ Hs
    isplitl [HO]; · iexact HO
    isplitl [Ht]; · iexact Ht
    isplitr; · iapply (recs_dma A κ c 0 (opp i)) $$ HR
    isplitl [Ht']; · iexact Ht'
    iexact Hr
  iintro ⟨Hc, HO⟩
  iapply Hk
  isplitl [Hc] <;> iassumption

def agP (i : Fin 31) : sProp 𝕄 :=
  iprop(outAt c (rowsOf c) (piece (opp i)) (outF A) ∗ cpToks c 2 3 i ∗ (∃ f, outAt (peer c i) (rowsOf c) fullShare f)
    ∗ reached ER (dmaC (peer c i) 3 (opp i)) 0)

theorem agSendE_eq (i : Fin 31) : (agSendE outM cc0_scratch6 cc0_scratch7 c i : Eff F PUnit)
    = .enqueueDma (rowsM outM c) (.remote (Dev.tc (peer c i)) (rowsM outM c) (.dma (dsem 2 (opp i)))) (.dma (dsem 3 (opp i)))
    (View.wordExact_bits rfl) (View.wordExact_bits rfl) ⟨⟨rfl, Or.inl rfl⟩, trivial⟩ := by
  unfold agSendE
  congr 1
  · exact myRows_eq outM c
  · rw [sem6_eq, myRows_eq]
  · rw [sem7_eq]

theorem ag_step {α : Type} (Kt : α → sProp 𝕄) (O : CellTallies nD τ sig Unit) (W : Waits sig Unit) (i : Fin 31) (l' : List (Fin 31)) (k : Prog (Eff F) α) :
    iprop(recs A κ c ∗ agP A c i ∗ cpS c 3 O W (i :: l') ∗ ((credQ c 2 i ∗ cpS c 3 O W l') -∗ wpc c k Kt))
      ⊢ wpc c (.op (agSendE outM cc0_scratch6 cc0_scratch7 c i) fun _ => k) Kt := by
  rw [agSendE_eq]
  unfold agP cpS credQ cpToks
  iintro ⟨#HR, ⟨Ha, ⟨Ht, Ht'⟩, ⟨%fd, Hs⟩, #Hr⟩, HO, Hk⟩
  iapply (Rounds.wp_send_pointsTo 𝒱₀ ER (Rd A) (c : Thread nD τ) none (c' := (peer c i : Thread nD τ)) (src := rowsM outM c) (dst := rowsM outM c)
      (sS := .dma (dsem 2 (opp i))) (sem := .dma (dsem 3 (opp i))) (q := piece (opp i)) (fs := outF A) (κ₁ := κ (dmaC c 2 (opp i))) (κ₂ := κ (dmaC (peer c i) 3 (opp i)))
      (r₁ := 0) (r₂ := 0) (d₁ := 0) (d₂ := 0) (fd := fd)
      (by rw [duties_dma]; exact Finset.mem_singleton_self _) (by rw [duties_dma]; exact Finset.mem_singleton_self _)
      () () NC rfl rfl rfl (debtDma c 3 l' + O) (debtDma_step c _ O i l')
      (by rw [payload_dma, dmaPay_2]; exact Entails.of_eq (out_view c c (piece (opp i)) (outF A)))
      (by
        rw [payload_dma, dmaPay_3, peer_peer]
        exact Entails.of_eq ((out_view (peer c i) c fullShare _).trans (pointsTo_congr fun x hx => out_write c fd (outF A) x hx)))) $$ [Ha Hs HO Ht Ht']
  · isplitr; · iapply (recs_inv A κ c (dma_mem _ _ _)) $$ HR
    isplitr; · iapply (recs_inv A κ c (dma_mem _ _ _)) $$ HR
    isplitl [Ha]; · iapply (Entails.of_eq (out_view c c (piece (opp i)) (outF A)).symm) $$ Ha
    isplitl [Hs]; · iapply (Entails.of_eq (out_view (peer c i) c fullShare fd).symm) $$ Hs
    isplitl [HO]; · iexact HO
    isplitl [Ht]; · iexact Ht
    isplitr; · iapply (recs_dma A κ c 2 (opp i)) $$ HR
    isplitl [Ht']; · iexact Ht'
    iexact Hr
  iintro ⟨Hc, HO⟩
  iapply Hk
  isplitl [Hc] <;> iassumption

/-! ## Waits -/

def waitP (k : Fin 4) (j : Fin 31) : sProp 𝕄 := iprop(cred (tallyAt (dmaC c k j) () NC) ∗ atPos ER (dmaC c k j) 0 ∅ 0)
def waitQ (k : Fin 4) (j : Fin 31) : sProp 𝕄 := iprop(dmaPay A c k j ∗ atPos ER (dmaC c k j) (0 + 1) ∅ 0)
def waitS (O : CellTallies nD τ sig Unit) (_ : List (Fin 31)) : sProp 𝕄 := iprop(∃ W, owes (c : Thread nD τ) O W)

/-- A wait on copy semaphore j of array k, at a destination of one transfer's size. -/
theorem wait_step {α : Type} (Kt : α → sProp 𝕄) (O : CellTallies nD τ sig Unit) (k : Fin 4) (j : Fin 31) (l l' : List (Fin 31)) (p : Prog (Eff F) α)
    (w : Eff F PUnit)
    (hw : ∀ K : PUnit → sProp 𝕄, wpE (defs₀ (F := F)) 𝒱₀ (c : Thread nD τ) none Set.univ w K = waitSpec (c : Thread nD τ) Set.univ (.dma (dsem k j)) NC K)
    (hmay : (levAts L lv : sProp 𝕄) ⊢ MayWait (c : Thread nD τ) (.dma (dsem k j)) () O) :
    iprop(recs A κ c ∗ waitP c k j ∗ waitS c O l ∗ ((waitQ A c k j ∗ waitS c O l') -∗ wpc c p Kt)) ⊢ wpc c (.op w fun _ => p) Kt := by
  unfold waitP waitS waitQ
  iintro ⟨#HR, ⟨Hc, Hat⟩, ⟨%W, HO⟩, Hk⟩
  iapply (Rounds.wp_wait_rest_token 𝒱₀ ER (Rd A) (c : Thread nD τ) none (κ := κ (dmaC c k j)) (w := w) (sm := .dma (dsem k j)) (k' := NC)
      hw (Set.mem_univ _) () (O := O) (W := W) (R := 0) (m := 0) (T := ∅)
      ((Nat.zero_add _).trans (expect_dma A c k j).symm)) $$ [Hc HO Hat]
  · isplitr; · iapply (recs_inv A κ c (dma_mem _ _ _)) $$ HR
    isplitl [Hc]; · iexact Hc
    isplitl [HO]; · iexact HO
    isplitr
    · iapply hmay
      iapply (recs_lev A κ c) $$ HR
    iexact Hat
  iintro ⟨HO, Hat, -, Hpay⟩
  ihave Hp := (Entails.of_eq (rest_dma A c k j)) $$ Hpay
  iapply Hk
  isplitr [HO]
  · isplitl [Hp] <;> iassumption
  iexists _; iexact HO

theorem mayWait_none (sm : SemLoc sig) : (levAts L lv : sProp 𝕄) ⊢ MayWait (c : Thread nD τ) sm () 0 := by
  rw [MayWait_zero]; iintro -; iempintro

theorem rsWaitE_eq (j : Fin 31) : (rsWaitE rsM cc0_scratch5 j : Eff F PUnit)
    = .waitDma2 (dsem 1 j) (slotOf rsM j) (slotOf rsM j) ((View.wordExact_bits rfl).reshape _ _) ((View.wordExact_bits rfl).reshape _ _) := by
  unfold rsWaitE
  congr 1
  exact sem5_eq j
theorem agWaitE_eq (j : Fin 31) : (agWaitE outM rsM cc0_scratch7 c j : Eff F PUnit)
    = .waitDma2 (dsem 3 j) (slotOf rsM j) (slotRows outM c j) ((View.wordExact_bits rfl).reshape _ _) (View.wordExact_bits rfl) := by
  unfold agWaitE
  congr 1
  exact sem7_eq j
theorem rsDoneE_eq (i : Fin 31) : (rsDoneE accM rsM cc0_scratch4 c i : Eff F PUnit)
    = .waitDma2 (dsem 0 (opp i)) (slotOf rsM (opp i)) (peerRows accM c i) ((View.wordExact_bits rfl).reshape _ _) (View.wordExact_bits rfl) := by
  unfold rsDoneE
  congr 1
  exact sem4_eq _
theorem agDoneE_eq (i : Fin 31) : (agDoneE outM cc0_scratch6 c i : Eff F PUnit)
    = .waitDma2 (dsem 2 (opp i)) (myRows outM c) (myRows outM c) (View.wordExact_bits rfl) (View.wordExact_bits rfl) := by
  unfold agDoneE
  congr 1
  exact sem6_eq _

theorem rsWait_step {α : Type} (Kt : α → sProp 𝕄) (j : Fin 31) (l' : List (Fin 31)) (p : Prog (Eff F) α) :
    iprop(recs A κ c ∗ waitP c 1 j ∗ waitS c (debtDma c 3 idx31) (j :: l') ∗ ((waitQ A c 1 j ∗ waitS c (debtDma c 3 idx31) l') -∗ wpc c p Kt))
      ⊢ wpc c (.op (rsWaitE rsM cc0_scratch5 j) fun _ => p) Kt := by
  rw [rsWaitE_eq]
  exact wait_step A κ c Kt _ 1 j _ l' p _ (fun K => wpE_waitDma2_eq 𝒱₀ (c : Thread nD τ) none Set.univ K) (mayWait_rs c j)
theorem agWait_step {α : Type} (Kt : α → sProp 𝕄) (j : Fin 31) (l' : List (Fin 31)) (p : Prog (Eff F) α) :
    iprop(recs A κ c ∗ waitP c 3 j ∗ waitS c 0 (j :: l') ∗ ((waitQ A c 3 j ∗ waitS c 0 l') -∗ wpc c p Kt))
      ⊢ wpc c (.op (agWaitE outM rsM cc0_scratch7 c j) fun _ => p) Kt := by
  rw [agWaitE_eq]
  exact wait_step A κ c Kt _ 3 j _ l' p _ (fun K => wpE_waitDma2_eq 𝒱₀ (c : Thread nD τ) none Set.univ K) (mayWait_none c _)
theorem rsDone_step {α : Type} (Kt : α → sProp 𝕄) (i : Fin 31) (l' : List (Fin 31)) (p : Prog (Eff F) α) :
    iprop(recs A κ c ∗ waitP c 0 (opp i) ∗ waitS c 0 (i :: l') ∗ ((waitQ A c 0 (opp i) ∗ waitS c 0 l') -∗ wpc c p Kt))
      ⊢ wpc c (.op (rsDoneE accM rsM cc0_scratch4 c i) fun _ => p) Kt := by
  rw [rsDoneE_eq]
  exact wait_step A κ c Kt _ 0 (opp i) _ l' p _ (fun K => wpE_waitDma2_eq 𝒱₀ (c : Thread nD τ) none Set.univ K) (mayWait_none c _)
theorem agDone_step {α : Type} (Kt : α → sProp 𝕄) (i : Fin 31) (l' : List (Fin 31)) (p : Prog (Eff F) α) :
    iprop(recs A κ c ∗ waitP c 2 (opp i) ∗ waitS c 0 (i :: l') ∗ ((waitQ A c 2 (opp i) ∗ waitS c 0 l') -∗ wpc c p Kt))
      ⊢ wpc c (.op (agDoneE outM cc0_scratch6 c i) fun _ => p) Kt := by
  rw [agDoneE_eq]
  exact wait_step A κ c Kt _ 2 (opp i) _ l' p _ (fun K => wpE_waitDma2_eq 𝒱₀ (c : Thread nD τ) none Set.univ K) (mayWait_none c _)

end Cert.KernelIdeal.Body

end
-- ==== Proof.Run.lean ====
/-
  The body on one device, from what it holds when it starts to what it holds when it returns: the result's buffer at the
  sum of all devices' accumulators (rows by owner), every semaphore back at zero.
-/
module

public import proofs.«01_k».proof.Proof.Steps
public import Idealize.ShloMosaic.Lib.Rounds.Family

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the offsets -/

def oppE : Fin 31 ≃ Fin 31 := ⟨opp, opp, opp_opp, opp_opp⟩
theorem bigSep_opp (Φ : Fin 31 → sProp 𝕄) : bigSep Finset.univ Φ = bigSep Finset.univ fun i => Φ (opp i) := bigSep_univ_equiv oppE Φ
theorem sep2 (Φ Ψ : Fin 31 → sProp 𝕄) :
    bigSep Finset.univ (fun i => iprop(Φ i ∗ Ψ i)) = iprop(bigSep Finset.univ Φ ∗ bigSep Finset.univ Ψ) := bigSep_sep' _ _ _
theorem sep4 (Φ Ψ Χ Ω : Fin 31 → sProp 𝕄) : bigSep Finset.univ (fun i => iprop(Φ i ∗ Ψ i ∗ Χ i ∗ Ω i))
    = iprop(bigSep Finset.univ Φ ∗ bigSep Finset.univ Ψ ∗ bigSep Finset.univ Χ ∗ bigSep Finset.univ Ω) := by
  rw [sep2 Φ, sep2 Ψ, sep2 Χ]
theorem four (Φ : Fin 4 → Fin 31 → sProp 𝕄) : bigSep Finset.univ (fun p : Fin 4 × Fin 31 => Φ p.1 p.2)
    = iprop(bigSep Finset.univ (Φ 0) ∗ bigSep Finset.univ (Φ 1) ∗ bigSep Finset.univ (Φ 2) ∗ bigSep Finset.univ (Φ 3)) := by
  rw [bigSep_univ_prod, show (Finset.univ : Finset (Fin 4)) = {0, 1, 2, 3} from by decide, bigSep_insert (by decide), bigSep_insert (by decide),
    bigSep_insert (by decide), bigSep_singleton]
  rfl

theorem each31 (c : Dev nD) {α : Type} (f : Fin 31 → Eff F PUnit) (kp : Prog (Eff F) α) (Kt : α → sProp 𝕄) (R : sProp 𝕄) [Persistent R]
    (P Q : Fin 31 → sProp 𝕄) (S : List (Fin 31) → sProp 𝕄)
    (hstep : ∀ i l' (k : Prog (Eff F) α), iprop(R ∗ P i ∗ S (i :: l') ∗ ((Q i ∗ S l') -∗ wpc c k Kt)) ⊢ wpc c (.op (f i) fun _ => k) Kt) :
    iprop(R ∗ bigSep Finset.univ P ∗ S idx31 ∗ ((bigSep Finset.univ Q ∗ S []) -∗ wpc c kp Kt)) ⊢ wpc c (each idx31 f kp) Kt := by
  have h := each_wp c f kp Kt R P Q S hstep idx31 idx31_nodup
  rwa [idx31_univ] at h

/-! ## The buffers in parts -/

/-- A buffer cut into a part and one part per offset. -/
theorem cut_parts (ℓ : Loc nD τ sig) (f : Buf (Elt F) ℓ) (J : Finset (Idx ℓ)) (K : Fin 31 → Finset (Idx ℓ)) (hc : Finset.univ = J ∪ Finset.univ.biUnion K)
    (hd : Disjoint J (Finset.univ.biUnion K)) (hp : ∀ i ∈ (Finset.univ : Finset (Fin 31)), ∀ j ∈ (Finset.univ : Finset (Fin 31)), i ≠ j → Disjoint (K i) (K j)) :
    (ℓ ↦{fullShare} f : sProp 𝕄) = iprop((ℓ ↦[J]{fullShare} f) ∗ bigSep Finset.univ fun i => ℓ ↦[K i]{fullShare} f) := by
  have hu : (ℓ ↦[J ∪ Finset.univ.biUnion K]{fullShare} f : sProp 𝕄) ⊣⊢ iprop((ℓ ↦[J]{fullShare} f) ∗ ℓ ↦[Finset.univ.biUnion K]{fullShare} f) := pointsTo_union hd
  have he := BI.equiv_iff.mp ⟨hu.1, hu.2⟩
  rw [pointsTo_biUnion Finset.univ K hp, ← hc] at he
  exact he
theorem cut_all (ℓ : Loc nD τ sig) (f : Buf (Elt F) ℓ) (K : Fin 31 → Finset (Idx ℓ)) (hc : Finset.univ = Finset.univ.biUnion K)
    (hp : ∀ i ∈ (Finset.univ : Finset (Fin 31)), ∀ j ∈ (Finset.univ : Finset (Fin 31)), i ≠ j → Disjoint (K i) (K j)) :
    (ℓ ↦{fullShare} f : sProp 𝕄) = bigSep Finset.univ fun i => ℓ ↦[K i]{fullShare} f := by
  have he := pointsTo_biUnion (nD := nD) (τ := τ) (sig := sig) (Ix := Unit) (Val := Elt F) (Name := ℕ) (U := UU) (Lvl := ℕ) (ℓ := ℓ) (q := fullShare) (f := f) Finset.univ K hp
  rw [← hc] at he
  exact he

section Parts
variable (c : Dev nD)

theorem acc_parts (f : Vec F S1024x1024 .f32) : (pt c cc0_scratch0 f : sProp 𝕄)
    = iprop(accAt c (rowsOf c) fullShare f ∗ bigSep Finset.univ fun i => accAt c (rowsOf (peer c i)) fullShare f) :=
  cut_parts ((c : Thread nD τ).loc cc0_scratch0) f (rowsOf c) (fun i => rowsOf (peer c i)) (rows_cover c) (rows_cover_disjoint c) (rows_peers_disjoint c)
theorem out_parts (f : Vec F S1024x1024 .f32) : (pt c cc0_stg5_0 f : sProp 𝕄)
    = iprop(outAt c (rowsOf c) fullShare f ∗ bigSep Finset.univ fun i => outAt c (rowsOf (peer c i)) fullShare f) :=
  cut_parts ((c : Thread nD τ).loc cc0_stg5_0) f (rowsOf c) (fun i => rowsOf (peer c i)) (rows_cover c) (rows_cover_disjoint c) (rows_peers_disjoint c)
theorem rs_parts (f : Vec F S31x32x1024 .f32) : (pt c cc0_scratch3 f : sProp 𝕄) = bigSep Finset.univ fun j => rsAt c (slotSet j) fullShare f :=
  cut_all ((c : Thread nD τ).loc cc0_scratch3) f slotSet slot_cover slot_disjoint
theorem out_pieces (f : Vec F S1024x1024 .f32) :
    (outAt c (rowsOf c) fullShare f : sProp 𝕄) = bigSep Finset.univ fun j : Fin 31 => outAt c (rowsOf c) (piece j) f :=
  pointsTo_piecesOf _ _ _ _

/-- What a device lends its peers, from its two buffers. -/
theorem lend (f : Vec F S31x32x1024 .f32) (g : Vec F S1024x1024 .f32) :
    iprop((pt c cc0_scratch3 f : sProp 𝕄) ∗ pt c cc0_stg5_0 g) ⊢ iprop(outAt c (rowsOf c) fullShare g ∗ bigSep Finset.univ (lendP (F := F) c)) := by
  have h1 : (bigSep Finset.univ fun j => (rsAt c (slotSet j) fullShare f : sProp 𝕄)) ⊢ bigSep Finset.univ fun j => iprop(∃ f, rsAt c (slotSet j) fullShare f) :=
    bigSep_mono fun j _ => show (rsAt c (slotSet j) fullShare f : sProp 𝕄) ⊢ iprop(∃ f, rsAt c (slotSet j) fullShare f) from by iintro H; iexists f; iexact H
  have h2 : (bigSep Finset.univ fun i => (outAt c (rowsOf (peer c i)) fullShare g : sProp 𝕄)) ⊢ bigSep Finset.univ fun i => iprop(∃ f, outAt c (rowsOf (peer c i)) fullShare f) :=
    bigSep_mono fun i _ => show (outAt c (rowsOf (peer c i)) fullShare g : sProp 𝕄) ⊢ iprop(∃ f, outAt c (rowsOf (peer c i)) fullShare f) from by iintro H; iexists g; iexact H
  rw [rs_parts, out_parts, show bigSep Finset.univ (lendP (F := F) c) = iprop((bigSep Finset.univ fun j => iprop(∃ f, rsAt c (slotSet j) fullShare f))
    ∗ bigSep Finset.univ fun i => iprop(∃ f, outAt c (rowsOf (peer c i)) fullShare f)) from sep2 _ _]
  iintro ⟨Hrs, Ho, Hos⟩
  isplitl [Ho]; · iexact Ho
  isplitl [Hrs]; · iapply h1 $$ Hrs
  iapply h2 $$ Hos

end Parts

/-! ## The reduction -/

/-- The reduction at a rectangle's offset. -/
def reduceAt {α : Type} (off : Fin 2 → Nat) (h : ∀ a, off a + S32x1024.size a ≤ S1024x1024.size a) (k : Prog (Eff F) α) : Prog (Eff F) α :=
  .op (.load accM (Rect.unit (s := S1024x1024) off S32x1024.size h).toLoadRect (View.loadsAt_vmem h_S32x1024)) fun a =>
  .op (.load rsM (Rect.unit (s := S31x32x1024) ![0, 0, 0] S31x32x1024.size inb_S31x32x1024_S31x32x1024_0_0_0).toLoadRect (View.loadsAt_vmem h_S31x32x1024)) fun b =>
  .op (.load outM (Rect.unit (s := S1024x1024) off S32x1024.size h).toLoadRect (View.loadsAt_vmem h_S32x1024)) fun _ =>
  .op (.store outM (Rect.unit (s := S1024x1024) off S32x1024.size h) (k0_pay26 a b) Finset.univ
    (View.stores_vmem_bits_univ h_S32x1024 rfl) (.inl rfl)) fun _ => k
theorem reduceAt_congr {α : Type} {off off' : Fin 2 → Nat} (e : off = off') (h : ∀ a, off a + S32x1024.size a ≤ S1024x1024.size a)
    (h' : ∀ a, off' a + S32x1024.size a ≤ S1024x1024.size a) (k : Prog (Eff F) α) : reduceAt off h k = reduceAt off' h' k := by subst e; rfl
theorem reduceP_eq {α : Type} (c : Dev nD) (k : Prog (Eff F) α) : reduceP outM accM rsM c k = reduceAt ![32 * c.val, 0] (inbRows c) k :=
  reduceAt_congr (off2_eq c) (k0_off2_inb c) (inbRows c) k

abbrev rsRect : Rect S31x32x1024 := Rect.unit (s := S31x32x1024) ![0, 0, 0] S31x32x1024.size inb_S31x32x1024_S31x32x1024_0_0_0
theorem rs_whole (f : Vec F S31x32x1024 .f32) : (fun x => f (rsRect.emb x)) = f := funext fun x => congrArg f
  (Shape.idx3_ext (by show 0 + 1 * (x 0).val = _; omega) (by show 0 + 1 * (x 1).val = _; omega) (by show 0 + 1 * (x 2).val = _; omega))

variable (A : Dev nD → Vec F S1024x1024 .f32) (c : Dev nD)

theorem reduce_wp {α : Type} (Kt : α → sProp 𝕄) (g : Vec F S1024x1024 .f32) (k : Prog (Eff F) α) :
    iprop(accAt c (rowsOf c) fullShare (A c) ∗ pt c cc0_scratch3 (landed A c) ∗ outAt c (rowsOf c) fullShare g
        ∗ ((accAt c (rowsOf c) fullShare (A c) ∗ pt c cc0_scratch3 (landed A c) ∗ outAt c (rowsOf c) fullShare (outF A)) -∗ wpc c k Kt))
      ⊢ wpc c (reduceP outM accM rsM c k) Kt := by
  rw [reduceP_eq]
  unfold reduceAt
  iintro ⟨Ha, Hr, Ho, HK⟩
  iapply (wp_load_rect 𝒱₀ (c : Thread nD τ) none Set.univ (m := accM) (r := rowsR c) (S := rowsOf c) (q := fullShare) (f := A c) (by rw [← acc_set c])) $$ Ha
  iintro Ha
  iapply (wp_load_rect 𝒱₀ (c : Thread nD τ) none Set.univ (m := rsM) (r := rsRect) (S := Finset.univ) (q := fullShare) (f := landed A c) (Finset.subset_univ _)) $$ Hr
  iintro Hr
  iapply (wp_load_rect 𝒱₀ (c : Thread nD τ) none Set.univ (m := outM) (r := rowsR c) (S := rowsOf c) (q := fullShare) (f := g) (by rw [← out_set c])) $$ Ho
  iintro Ho
  iapply (wp_store 𝒱₀ (c : Thread nD τ) none Set.univ (m := outM) (r := rowsR c) (S := rowsOf c) (f := g) (by rw [View.setOn_univ, ← out_set c])) $$ Ho
  iintro Ho
  iapply HK
  isplitl [Ha]; · iexact Ha
  isplitl [Hr]; · iexact Hr
  iapply (Entails.of_eq (show ((outM.access (rowsR c)).loc (c : Thread nD τ) ↦[rowsOf c]{fullShare} (outM.access (rowsR c)).write (Elt F) g
      (k0_pay26 ((accM.access (rowsR c)).read (Elt F) (A c)) ((rsM.access rsRect).read (Elt F) (landed A c))) Finset.univ : sProp 𝕄)
      = outAt c (rowsOf c) fullShare (outF A) from by
    have e : k0_pay26 ((accM.access (rowsR c)).read (Elt F) (A c)) ((rsM.access rsRect).read (Elt F) (landed A c)) = chunk A c :=
      congrArg (k0_pay26 ((accM.access (rowsR c)).read (Elt F) (A c))) (rs_whole (landed A c))
    rw [e]
    exact pointsTo_congr fun i hi => chunk_write A c g i hi)) $$ Ho

/-! ## The body -/

/-- The device's position on its cells and the tokens of the duties it pays. -/
def opened : sProp 𝕄 :=
  iprop(atPos ER (barC c) 0 ∅ 0 ∗ (bigSep Finset.univ fun p : Fin 4 × Fin 31 => atPos ER (dmaC c p.1 p.2) 0 ∅ 0)
    ∗ (bigSep Finset.univ fun i => dutyTok ER (barC (peer c i)) 0 i) ∗ bigSep Finset.univ (cpToks (F := F) c 0 1) ∗ bigSep Finset.univ (cpToks (F := F) c 2 3))
def creds : sProp 𝕄 :=
  iprop(cred (tallyAt (barC c) () 31) ∗ (bigSep Finset.univ fun j => cred (tallyAt (dmaC c 1 j) () NC)) ∗ bigSep Finset.univ fun j => cred (tallyAt (dmaC c 3 j) () NC))

def bodyPre (κ : GSem nD τ sig → ℕ) (x w : Vec F S1024x1024 .f32) (kk vv : Vec F S8x1024x128 .f32) (wo : Vec F S1024x1024 .f32) (W : Waits sig Unit) : sProp 𝕄 :=
  iprop(recs A κ c ∗ opened (F := F) c ∗ creds (F := F) c ∗ inputs c x w kk vv wo ∗ (∃ f, pt c cc0_scratch0 f) ∗ (∃ f, pt c cc0_scratch3 f) ∗ (∃ f, pt c cc0_stg5_0 f)
    ∗ owes (c : Thread nD τ) (O₀ c) W)
def bodyPost (x w : Vec F S1024x1024 .f32) (kk vv : Vec F S8x1024x128 .f32) (wo : Vec F S1024x1024 .f32) : sProp 𝕄 :=
  iprop(semVal (barC c) 0 ∗ (bigSep Finset.univ fun p : Fin 4 × Fin 31 => semVal (dmaC c p.1 p.2) 0) ∗ inputs c x w kk vv wo
    ∗ (∃ f, pt c cc0_scratch0 f) ∗ (∃ f, pt c cc0_scratch3 f) ∗ pt c cc0_stg5_0 (outF A) ∗ ∃ W, owes (c : Thread nD τ) (0 : CellTallies nD τ sig Unit) W)

theorem barGot : (bigSep Finset.univ fun i => barPay (F := F) c i) = iprop((bigSep Finset.univ fun i => iprop(∃ f, rsAt (peer c i) (slotSet (opp i)) fullShare f))
    ∗ (bigSep Finset.univ fun i => iprop(∃ f, outAt (peer c i) (rowsOf c) fullShare f))
    ∗ (bigSep Finset.univ fun i => reached ER (dmaC (peer c i) 1 (opp i)) 0) ∗ bigSep Finset.univ fun i => reached ER (dmaC (peer c i) 3 (opp i)) 0) := by
  rw [bigSep_opp, show (fun i => barPay (F := F) c (opp i)) = gotP (F := F) c from funext (barPay_opp c)]
  exact sep4 _ _ _ _

theorem sigP_split : bigSep Finset.univ (sigP (F := F) c) = iprop((bigSep Finset.univ fun i => dutyTok ER (barC (peer c i)) 0 i) ∗ bigSep Finset.univ (lendP (F := F) c)) := sep2 _ _
theorem rsP_split : bigSep Finset.univ (rsP A c) = iprop((bigSep Finset.univ fun i => accAt c (rowsOf (peer c i)) fullShare (A c)) ∗ bigSep Finset.univ (cpToks (F := F) c 0 1)
    ∗ (bigSep Finset.univ fun i => iprop(∃ f, rsAt (peer c i) (slotSet (opp i)) fullShare f)) ∗ bigSep Finset.univ fun i => reached ER (dmaC (peer c i) 1 (opp i)) 0) := sep4 _ _ _ _
theorem agP_split : bigSep Finset.univ (agP A c) = iprop((bigSep Finset.univ fun i => outAt c (rowsOf c) (piece i) (outF A)) ∗ bigSep Finset.univ (cpToks (F := F) c 2 3)
    ∗ (bigSep Finset.univ fun i => iprop(∃ f, outAt (peer c i) (rowsOf c) fullShare f)) ∗ bigSep Finset.univ fun i => reached ER (dmaC (peer c i) 3 (opp i)) 0) := by
  rw [bigSep_opp (fun i => outAt c (rowsOf c) (piece i) (outF A))]
  exact sep4 _ _ _ _
theorem waitP_split (k : Fin 4) : bigSep Finset.univ (waitP (F := F) c k) = iprop((bigSep Finset.univ fun j => cred (tallyAt (dmaC c k j) () NC)) ∗ bigSep Finset.univ fun j => atPos ER (dmaC c k j) 0 ∅ 0) := sep2 _ _
theorem waitQ_split (k : Fin 4) : bigSep Finset.univ (waitQ A c k) = iprop(bigSep Finset.univ (dmaPay A c k) ∗ bigSep Finset.univ fun j => atPos ER (dmaC c k j) (0 + 1) ∅ 0) := sep2 _ _
/-- The credits of the sends, in either order. -/
theorem credQ_opp (k : Fin 4) : bigSep Finset.univ (credQ (F := F) c k) = (bigSep Finset.univ fun j => cred (tallyAt (dmaC c k j) () NC)) :=
  (bigSep_opp (fun j => cred (tallyAt (dmaC c k j) () NC))).symm
theorem waitP_opp (k : Fin 4) : iprop(bigSep Finset.univ (credQ (F := F) c k) ∗ bigSep Finset.univ fun j => atPos ER (dmaC c k j) 0 ∅ 0)
    ⊢ (bigSep Finset.univ fun i => waitP (F := F) c k (opp i) : sProp 𝕄) :=
  Entails.of_eq (by rw [← bigSep_opp (waitP c k), waitP_split, credQ_opp])
theorem acc_back : bigSep Finset.univ (dmaPay A c 0) = bigSep Finset.univ fun i => accAt c (rowsOf (peer c i)) fullShare (A c) :=
  (bigSep_opp (fun i => accAt c (rowsOf (peer c i)) fullShare (A c))).symm

theorem acc_join : iprop(accAt c (rowsOf c) fullShare (A c) ∗ bigSep Finset.univ (dmaPay A c 0)) ⊢ (pt c cc0_scratch0 (A c) : sProp 𝕄) :=
  Entails.of_eq (by rw [acc_parts, acc_back])
theorem out_join : iprop(bigSep Finset.univ (dmaPay A c 2) ∗ bigSep Finset.univ (dmaPay A c 3)) ⊢ (pt c cc0_stg5_0 (outF A) : sProp 𝕄) :=
  Entails.of_eq (by rw [out_parts, out_pieces]; rfl)
theorem waitS_intro (O : CellTallies nD τ sig Unit) (W : Waits sig Unit) : (owes (c : Thread nD τ) O W : sProp 𝕄) ⊢ waitS c O [] := by
  unfold waitS; iintro H; iexists W; iexact H
theorem close_bar (κ : GSem nD τ sig → ℕ) : iprop(recs A κ c ∗ atPos ER (barC c) (0 + 1) ∅ 0) ⊢ (|={Set.univ}=> semVal (barC c) 0 : sProp 𝕄) := by
  refine BI.Entails.trans (show (iprop(recs A κ c ∗ atPos ER (barC c) (0 + 1) ∅ 0) : sProp 𝕄) ⊢ iprop(cellInv ER (Rd A) (κ (barC c)) (barC c) ∗ atPos ER (barC c) (0 + 1) ∅ 0) from ?_)
    (Rounds.cell_close ER (Rd A) (Set.mem_univ (κ (barC c))) id (duties_later A (barC c)))
  iintro ⟨#HR, H⟩
  isplitr; · iapply (recs_inv A κ c (bar_mem c)) $$ HR
  iexact H
theorem close_dma (κ : GSem nD τ sig → ℕ) : iprop(recs A κ c ∗ bigSep Finset.univ fun p : Fin 4 × Fin 31 => atPos ER (dmaC c p.1 p.2) (0 + 1) ∅ 0)
    ⊢ (|={Set.univ}=> bigSep Finset.univ fun p : Fin 4 × Fin 31 => semVal (dmaC c p.1 p.2) 0 : sProp 𝕄) := by
  refine BI.Entails.trans ?_ (Rounds.cells_close ER (Rd A) Finset.univ (fun p : Fin 4 × Fin 31 => dmaC c p.1 p.2) (fun p => κ (dmaC c p.1 p.2))
    (fun _ _ => Set.mem_univ _) (fun _ _ => id) (fun _ => 0 + 1) (fun p _ => duties_later A (dmaC c p.1 p.2)))
  refine bigSep_with_persistent (R := recs A κ c) fun p _ => (show (iprop(recs A κ c ∗ atPos ER (dmaC c p.1 p.2) (0 + 1) ∅ 0) : sProp 𝕄)
    ⊢ iprop(cellInv ER (Rd A) (κ (dmaC c p.1 p.2)) (dmaC c p.1 p.2) ∗ atPos ER (dmaC c p.1 p.2) (0 + 1) ∅ 0) from ?_)
  iintro ⟨#HR, H⟩
  isplitr; · iapply (recs_inv A κ c (dma_mem c p.1 p.2)) $$ HR
  iexact H

set_option maxHeartbeats 400000 in
theorem body_run (κ : GSem nD τ sig → ℕ) (x w : Vec F S1024x1024 .f32) (kk vv : Vec F S8x1024x128 .f32) (wo : Vec F S1024x1024 .f32)
    (hA : accOf x w kk vv wo = A c) (W : Waits sig Unit) (Kt : PUnit → sProp 𝕄) :
    iprop(bodyPre A c κ x w kk vv wo W ∗ (bodyPost A c x w kk vv wo -∗ Kt ⟨⟩))
      ⊢ wpc c (bodyP xM wqM kM vM woM outM accM qM ctxM rsM cc0_scratch4 cc0_scratch5 cc0_scratch6 cc0_scratch7) Kt := by
  unfold bodyP
  simp only [wp_deviceId]
  unfold bodyPre opened creds
  rw [four (fun k j => (atPos ER (dmaC c k j) 0 ∅ 0 : sProp 𝕄))]
  iintro ⟨⟨#HR, ⟨HatB, ⟨Hat0, Hat1, Hat2, Hat3⟩, HtB, Ht01, Ht23⟩, ⟨HcB, Hc1, Hc3⟩, Hin, ⟨%fa, Ha⟩, ⟨%fr, Hr⟩, ⟨%fo, Ho⟩, HO⟩, HK⟩
  ihave Hl := (lend c fr fo) $$ [Hr Ho]
  · isplitl [Hr] <;> iassumption
  icases Hl with ⟨Hown, Hlend⟩
  -- signal every peer
  iapply (each31 c (signalE c) _ Kt (recs A κ c) (sigP c) (fun _ => iprop(emp)) (sigS c (debtDma c 1 idx31 + debtDma c 3 idx31) W)
    (fun i l' k => sig_step A κ c Kt _ W i l' k))
  isplitr; · iexact HR
  isplitl [HtB Hlend]
  · rw [sigP_split]; isplitl [HtB] <;> iassumption
  isplitl [HO]; · unfold sigS; iexact HO
  iintro ⟨-, HO⟩
  unfold sigS
  rw [debtBar_nil, zero_add (debtDma c 1 idx31 + debtDma c 3 idx31)]
  -- wait for every peer's signal
  iapply (Rounds.wp_wait_rest_token 𝒱₀ ER (Rd A) (c : Thread nD τ) none (κ := κ (barC c))
      (wpE_semWait_eq 𝒱₀ (c : Thread nD τ) none Set.univ) (Set.mem_univ _) () (O := debtDma c 1 idx31 + debtDma c 3 idx31) (W := W) (R := 0) (m := 0) (T := ∅)
      ((Nat.zero_add 31).trans (expect_bar A c).symm)) $$ [HcB HO HatB]
  · isplitr; · iapply (recs_inv A κ c (bar_mem c)) $$ HR
    isplitl [HcB]; · iexact HcB
    isplitl [HO]; · iexact HO
    isplitr
    · iapply (mayWait_bar c)
      iapply (recs_lev A κ c) $$ HR
    iexact HatB
  iintro ⟨HO, HatB, -, Hpay⟩
  ihave Hp := (Entails.of_eq ((rest_bar A c).trans (barGot c))) $$ Hpay
  icases Hp with ⟨Hrs, Hos, Hr1, Hr3⟩
  -- compute
  iapply (compute_wp c Kt x w kk vv wo fa)
  isplitl [Hin]; · iexact Hin
  isplitl [Ha]; · iexact Ha
  iintro ⟨Hin, Ha⟩
  ihave Ha := (Entails.of_eq ((congrArg (fun f => (pt c cc0_scratch0 f : sProp 𝕄)) hA).trans (acc_parts c (A c)))) $$ Ha
  icases Ha with ⟨Ha, Has⟩
  -- send every peer its rows of the accumulator
  iapply (each31 c (rsSendE accM rsM cc0_scratch4 cc0_scratch5 c) _ Kt (recs A κ c) (rsP A c) (credQ c 0) (cpS c 1 (debtDma c 3 idx31) (insert (SemLoc.reg barrier0, ()) W))
    (fun i l' k => rs_step A κ c Kt _ _ i l' k))
  isplitr; · iexact HR
  isplitl [Has Ht01 Hrs Hr1]
  · rw [rsP_split]
    isplitl [Has]; · iexact Has
    isplitl [Ht01]; · iexact Ht01
    isplitl [Hrs] <;> iassumption
  isplitl [HO]; · unfold cpS; iexact HO
  iintro ⟨Hc0, HO⟩
  unfold cpS
  rw [debtDma_nil, zero_add (debtDma c 3 idx31)]
  -- wait for every peer's
  iapply (each31 c (rsWaitE rsM cc0_scratch5) _ Kt (recs A κ c) (waitP c 1) (waitQ A c 1) (waitS c (debtDma c 3 idx31))
    (fun j l' k => rsWait_step A κ c Kt j l' k))
  isplitr; · iexact HR
  isplitl [Hc1 Hat1]
  · rw [waitP_split]; isplitl [Hc1] <;> iassumption
  isplitl [HO]; · iapply (waitS_intro c (debtDma c 3 idx31) (insert (SemLoc.reg barrier0, ()) W)) $$ HO
  rw [waitQ_split]
  iintro ⟨⟨Hp1, Hat1⟩, HO⟩
  ihave Hr := (Entails.of_eq (show bigSep Finset.univ (dmaPay A c 1) = (pt c cc0_scratch3 (landed A c) : sProp 𝕄) from (rs_parts c (landed A c)).symm)) $$ Hp1
  -- sum the device's own rows
  iapply (reduce_wp A c Kt fo)
  isplitl [Ha]; · iexact Ha
  isplitl [Hr]; · iexact Hr
  isplitl [Hown]; · iexact Hown
  iintro ⟨Ha, Hr, Hown⟩
  ihave Hown := (Entails.of_eq (out_pieces c (outF A))) $$ Hown
  unfold waitS
  icases HO with ⟨%W1, HO⟩
  -- send them to every peer
  iapply (each31 c (agSendE outM cc0_scratch6 cc0_scratch7 c) _ Kt (recs A κ c) (agP A c) (credQ c 2) (cpS c 3 0 W1)
    (fun i l' k => ag_step A κ c Kt _ _ i l' k))
  isplitr; · iexact HR
  isplitl [Hown Ht23 Hos Hr3]
  · rw [agP_split]
    isplitl [Hown]; · iexact Hown
    isplitl [Ht23]; · iexact Ht23
    isplitl [Hos] <;> iassumption
  isplitl [HO]; · unfold cpS; rw [add_zero]; iexact HO
  iintro ⟨Hc2, HO⟩
  unfold cpS
  rw [debtDma_nil, zero_add (0 : CellTallies nD τ sig Unit)]
  -- wait for every peer's
  iapply (each31 c (agWaitE outM rsM cc0_scratch7 c) _ Kt (recs A κ c) (waitP c 3) (waitQ A c 3) (waitS c 0)
    (fun j l' k => agWait_step A κ c Kt j l' k))
  isplitr; · iexact HR
  isplitl [Hc3 Hat3]
  · rw [waitP_split]; isplitl [Hc3] <;> iassumption
  isplitl [HO]; · iapply (waitS_intro c 0 W1) $$ HO
  rw [waitQ_split]
  iintro ⟨⟨Hp3, Hat3⟩, HO⟩
  -- the sends of both exchanges are done
  iapply (each31 c (rsDoneE accM rsM cc0_scratch4 c) _ Kt (recs A κ c) (fun i => waitP c 0 (opp i)) (fun i => waitQ A c 0 (opp i)) (waitS c 0)
    (fun i l' k => rsDone_step A κ c Kt i l' k))
  isplitr; · iexact HR
  isplitl [Hc0 Hat0]
  · iapply (waitP_opp c 0); isplitl [Hc0] <;> iassumption
  isplitl [HO]; · iexact HO
  rw [← bigSep_opp (waitQ A c 0), waitQ_split]
  iintro ⟨⟨Hp0, Hat0⟩, HO⟩
  iapply (each31 c (agDoneE outM cc0_scratch6 c) _ Kt (recs A κ c) (fun i => waitP c 2 (opp i)) (fun i => waitQ A c 2 (opp i)) (waitS c 0)
    (fun i l' k => agDone_step A κ c Kt i l' k))
  isplitr; · iexact HR
  isplitl [Hc2 Hat2]
  · iapply (waitP_opp c 2); isplitl [Hc2] <;> iassumption
  isplitl [HO]; · iexact HO
  rw [← bigSep_opp (waitQ A c 2), waitQ_split]
  iintro ⟨⟨Hp2, Hat2⟩, HO⟩
  -- close every cell
  unfold wpc
  rw [wp_ret]
  imod (close_bar A c κ) $$ [HatB] with Hb0
  · isplitr; · iexact HR
    iexact HatB
  imod (close_dma A c κ) $$ [Hat0 Hat1 Hat2 Hat3] with Hd0
  · isplitr; · iexact HR
    rw [four (fun k j => (atPos ER (dmaC c k j) (0 + 1) ∅ 0 : sProp 𝕄))]
    isplitl [Hat0]; · iexact Hat0
    isplitl [Hat1]; · iexact Hat1
    isplitl [Hat2] <;> iassumption
  imodintro
  iapply HK
  unfold bodyPost
  isplitl [Hb0]; · iexact Hb0
  isplitl [Hd0]; · iexact Hd0
  isplitl [Hin]; · iexact Hin
  isplitl [Ha Hp0]
  · iexists A c
    iapply (acc_join A c)
    isplitl [Ha] <;> iassumption
  isplitl [Hr]; · iexists _; iexact Hr
  isplitl [Hp2 Hp3]
  · iapply (out_join A c)
    isplitl [Hp2] <;> iassumption
  unfold waitS
  iexact HO

end Cert.KernelIdeal.Body

end
-- ==== Proof.Region.lean ====
/-
  The kernel region on one device: its proof data over what the buffers hold when it starts (Wv), the body's obligation, and the
  record of the region with what it needs from the launch and what it leaves.
-/
module

public import proofs.«01_k».proof.Proof.Run
public import proofs.«01_k».proof.Proof.Gen.KernelIdeal.Launch
public import Idealize.ShloMosaic.Lib.Pipeline.Value
public import proofs.«01_k».proof.Proof.Gen.KernelIdeal.Points
public import proofs.«01_k».proof.Proof.Gen.KernelIdeal.Regions

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (Wv : Dev nD → Valuation τ sig (Elt F))

/-- A device's accumulator when its copies start. -/
def Av (d : Dev nD) : Vec F S1024x1024 .f32 :=
  accOf (Wv d (Proc.devRef .tc main_v5)) (Wv d (Proc.devRef .tc main_arg1)) (Wv d (Proc.devRef .tc main_v18)) (Wv d (Proc.devRef .tc main_v19))
    (Wv d (Proc.devRef .tc main_arg4))

/-- The region's result, the same on every device. -/
def outV : Vec F S1024x1024 .f32 := outF (Av Wv)

/-- What the buffers hold when the region ends. -/
def Wn (c : Dev nD) : Valuation τ sig (Elt F) := Function.update (Wv c) (Proc.devRef .tc main_v20) (outV Wv)

/-- The semaphores of the kernel's own copies. -/
def osem (p : Fin 4 × Fin 31) : SemLoc sig := .dma (dsem p.1 p.2)

/-- Kept for the region by the launch, but for the counters of its own copies. -/
def ghost (κ : GSem nD τ sig → ℕ) (c : Dev nD) : sProp 𝕄 :=
  iprop(records (Av Wv) κ ∗ atPos ER (barC c) 0 ∅ 0 ∗ (bigSep Finset.univ fun p : Fin 4 × Fin 31 => openTok ER (dmaC c p.1 p.2))
    ∗ (bigSep Finset.univ fun i : Fin 31 => dutyTok ER (barC (peer c i)) 0 i) ∗ bigSep Finset.univ (cpToks (F := F) c 0 1) ∗ bigSep Finset.univ (cpToks (F := F) c 2 3))

def Tk (c : Dev nD) : sProp 𝕄 := iprop((∃ κ, ghost Wv κ c) ∗ creds (F := F) c)
def Xk (c : Dev nD) : sProp 𝕄 := iprop((∃ κ, recs (Av Wv) κ c ∗ opened (F := F) c) ∗ creds (F := F) c)
def Yk (c : Dev nD) : sProp 𝕄 := semVal (barC c) 0

def scr (c : Dev nD) : sProp 𝕄 :=
  iprop((∃ f, pt c cc0_scratch0 f) ∗ (∃ f, pt c cc0_scratch1 f) ∗ (∃ f, pt c cc0_scratch2 f) ∗ ∃ f, pt c cc0_scratch3 f)

/-- The region's invariant before the body and after it. -/
def Φ₀ (c : Dev nD) : sProp 𝕄 := iprop(scr (F := F) c ∗ (∃ r, prngReg c r) ∗ Xk Wv c)
def Φ₁ (c : Dev nD) : sProp 𝕄 :=
  iprop(scr (F := F) c ∗ (∃ r, prngReg c r) ∗ (bigSep Finset.univ fun p : Fin 4 × Fin 31 => semVal ((c : Thread nD τ), osem p) 0) ∗ Yk (F := F) c)

def dat (c : Dev nD) : Dat τ (Elt F) Unit ℕ UU ℕ cfg0 c where
  A
    | ⟨0, _⟩ => Wv c (Proc.devRef .tc main_v5)
    | ⟨1, _⟩ => Wv c (Proc.devRef .tc main_arg1)
    | ⟨2, _⟩ => Wv c (Proc.devRef .tc main_v18)
    | ⟨3, _⟩ => Wv c (Proc.devRef .tc main_v19)
    | ⟨4, _⟩ => Wv c (Proc.devRef .tc main_arg4)
    | ⟨5, _⟩ => Wv c (Proc.devRef .tc main_v20)
  after w _ := match w with
    | ⟨0, _⟩ => Wv c (Proc.devRef .tc main_v5)
    | ⟨1, _⟩ => Wv c (Proc.devRef .tc main_arg1)
    | ⟨2, _⟩ => Wv c (Proc.devRef .tc main_v18)
    | ⟨3, _⟩ => Wv c (Proc.devRef .tc main_v19)
    | ⟨4, _⟩ => Wv c (Proc.devRef .tc main_arg4)
    | ⟨5, _⟩ => outV Wv
  Φ t := if t.val = 0 then Φ₀ Wv c else Φ₁ c
  q _ := fullShare
  owed t := if t.val = 0 then O₀ c else 0

def pdats : (p : Fin 1) → (c : Dev nD) → Dat τ (Elt F) Unit ℕ UU ℕ (Pipeline.pin (pcfgs (F := F)) adm p) c
  | 0 => dat Wv

/-! ## The windows are whole arrays -/

theorem emb_0 (i : S1024x1024.Idx) : ((cfg0.win 0).blk t0_0).view.emb i = i := by
  funext k; apply Fin.ext
  exact (cfg0.win 0).rect_emb_val_of_index_zero t0_0 k rfl i
theorem before_0 (c : Dev nD) (d) : (dat Wv c).before 0 t0_0 d = Wv c (Proc.devRef .tc main_v5) := by
  unfold Dat.before; rw [if_pos (fetch0_0 _)]
  funext i
  exact congrArg (Wv c (Proc.devRef .tc main_v5)) (emb_0 i)
theorem emb_1 (i : S1024x1024.Idx) : ((cfg0.win 1).blk t0_0).view.emb i = i := by
  funext k; apply Fin.ext
  exact (cfg0.win 1).rect_emb_val_of_index_zero t0_0 k rfl i
theorem before_1 (c : Dev nD) (d) : (dat Wv c).before 1 t0_0 d = Wv c (Proc.devRef .tc main_arg1) := by
  unfold Dat.before; rw [if_pos (fetch0_1 _)]
  funext i
  exact congrArg (Wv c (Proc.devRef .tc main_arg1)) (emb_1 i)
theorem emb_2 (i : S8x1024x128.Idx) : ((cfg0.win 2).blk t0_0).view.emb i = i := by
  funext k; apply Fin.ext
  exact (cfg0.win 2).rect_emb_val_of_index_zero t0_0 k rfl i
theorem before_2 (c : Dev nD) (d) : (dat Wv c).before 2 t0_0 d = Wv c (Proc.devRef .tc main_v18) := by
  unfold Dat.before; rw [if_pos (fetch0_2 _)]
  funext i
  exact congrArg (Wv c (Proc.devRef .tc main_v18)) (emb_2 i)
theorem emb_3 (i : S8x1024x128.Idx) : ((cfg0.win 3).blk t0_0).view.emb i = i := by
  funext k; apply Fin.ext
  exact (cfg0.win 3).rect_emb_val_of_index_zero t0_0 k rfl i
theorem before_3 (c : Dev nD) (d) : (dat Wv c).before 3 t0_0 d = Wv c (Proc.devRef .tc main_v19) := by
  unfold Dat.before; rw [if_pos (fetch0_3 _)]
  funext i
  exact congrArg (Wv c (Proc.devRef .tc main_v19)) (emb_3 i)
theorem emb_4 (i : S1024x1024.Idx) : ((cfg0.win 4).blk t0_0).view.emb i = i := by
  funext k; apply Fin.ext
  exact (cfg0.win 4).rect_emb_val_of_index_zero t0_0 k rfl i
theorem before_4 (c : Dev nD) (d) : (dat Wv c).before 4 t0_0 d = Wv c (Proc.devRef .tc main_arg4) := by
  unfold Dat.before; rw [if_pos (fetch0_4 _)]
  funext i
  exact congrArg (Wv c (Proc.devRef .tc main_arg4)) (emb_4 i)
theorem emb_5 (i : S1024x1024.Idx) : ((cfg0.win 5).blk t0_0).view.emb i = i := by
  funext k; apply Fin.ext
  exact (cfg0.win 5).rect_emb_val_of_index_zero t0_0 k rfl i

theorem arrAt_out (c : Dev nD) : (dat Wv c).arrAt 5 cfg0.N = outV Wv := by
  refine (dat Wv c).arrAt_eq_of_cover 5 (outV Wv) (fun t _ => ?_) (fun i => ⟨t0_0, flush0_5 _, ?_⟩)
  · obtain rfl := fin_N0 t
    funext i
    exact (congrArg (outV Wv) (emb_5 i)).symm
  · have := ((cfg0.win 5).blk t0_0).view.emb_mem_set i
    rwa [emb_5] at this

theorem arr_first (c : Dev nD) (w : Fin 6) : (dat Wv c).arrAt w 0 = Wv c (Proc.devRef .tc (Pipeline.arrRef spec0 w)) := by
  fin_cases w <;> rfl

theorem Wn_of (c : Dev nD) (r : Ref sig .tc) (h : r ≠ main_v20) : Wn Wv c (Proc.devRef .tc r) = Wv c (Proc.devRef .tc r) := by
  unfold Wn; exact Function.update_of_ne (StableHlo.devRef_ne_of_ne h) _ _
theorem Wn_out (c : Dev nD) : Wn Wv c (Proc.devRef .tc main_v20) = outV Wv := by
  unfold Wn; exact Function.update_self _ _ _

theorem arr_last (c : Dev nD) (w : Fin 6) : (dat Wv c).arrAt w cfg0.N = Wn Wv c (Proc.devRef .tc (Pipeline.arrRef spec0 w)) := by
  fin_cases w
  · exact ((dat Wv c).arrAt_in 0 rfl _).trans (Wn_of Wv c main_v5 (by decide)).symm
  · exact ((dat Wv c).arrAt_in 1 rfl _).trans (Wn_of Wv c main_arg1 (by decide)).symm
  · exact ((dat Wv c).arrAt_in 2 rfl _).trans (Wn_of Wv c main_v18 (by decide)).symm
  · exact ((dat Wv c).arrAt_in 3 rfl _).trans (Wn_of Wv c main_v19 (by decide)).symm
  · exact ((dat Wv c).arrAt_in 4 rfl _).trans (Wn_of Wv c main_arg4 (by decide)).symm
  · exact (arrAt_out Wv c).trans (Wn_out Wv c).symm

/-! ## The body's obligation -/

theorem owed_zero (c : Dev nD) : (dat (F := F) Wv c).owed t0_0.castSucc = O₀ c := by
  show (if (t0_0.castSucc : Fin (cfg0.N + 1)).val = 0 then O₀ c else 0) = O₀ c; exact if_pos rfl
theorem owed_last (c : Dev nD) : (dat (F := F) Wv c).owed t0_0.succ = 0 := by
  show (if (t0_0.succ : Fin (cfg0.N + 1)).val = 0 then O₀ c else 0) = 0; exact if_neg (by decide)

theorem owes_in (c : Dev nD) (t : Fin (cfg0.N + 1)) (O : CellTallies nD τ sig Unit) (h : (dat (F := F) Wv c).owed t = O) (W : Waits sig Unit) :
    (owes (c : Thread nD τ) O W : sProp 𝕄) ⊢ (dat Wv c).owesAt () t := by
  unfold Dat.owesAt Pipeline.owesWithin Dat.bound; rw [h]
  iintro HO; iexists W; isplitr
  · ipureintro; exact fun _ _ => Or.inl trivial
  iexact HO
theorem owes_out (c : Dev nD) (t : Fin (cfg0.N + 1)) (O : CellTallies nD τ sig Unit) (h : (dat (F := F) Wv c).owed t = O) :
    ((dat Wv c).owesAt () t : sProp 𝕄) ⊢ iprop(∃ W, owes (c : Thread nD τ) O W) := by
  unfold Dat.owesAt Pipeline.owesWithin; rw [h]
  iintro ⟨%W, -, HO⟩; iexists W; iexact HO

theorem body_call : (defs₀ (F := F)) .tc cfg0.body (cfg0.bodyArgs t0_0 (cfg0.slots t0_0)) =
    bodyP xM wqM kM vM woM outM accM qM ctxM rsM cc0_scratch4 cc0_scratch5 cc0_scratch6 cc0_scratch7 :=
  body_eq _ _ _ _ _ _ _ _ _ _ _ _ _ _ _ _ _ _ _ _ _ _ _ _

theorem body_obl (c : Dev nD) : BodyObligation (dat (F := F) Wv c) (defs₀ (F := F)) 𝒱₀ () Set.univ := fun t => by
  obtain rfl := fin_N0 t
  rw [bigSep_W0, bigSep_W0, body_call]
  simp only [before_0, before_1, before_2, before_3, before_4]
  rw [show (dat Wv c).Φ t0_0.castSucc = Φ₀ Wv c from rfl, show (dat Wv c).Φ t0_0.succ = Φ₁ c from rfl]
  unfold Φ₀ Xk scr
  iintro ⟨⟨⟨Hs0, Hs1, Hs2, Hs3⟩, Hp, ⟨%κ, Hrec, Hop⟩, Hcr⟩, HO, ⟨%d0, H0⟩, ⟨%d1, H1⟩, ⟨%d2, H2⟩, ⟨%d3, H3⟩, ⟨%d4, H4⟩, ⟨%d5, H5⟩⟩
  ihave HO' := (owes_out Wv c _ (O₀ c) (owed_zero Wv c)) $$ HO
  icases HO' with ⟨%W, HO⟩
  ihave G0 := (Entails.of_eq (owns_whole (c : Thread nD τ) cc0_stg0_0 fullShare _)) $$ H0
  ihave G1 := (Entails.of_eq (owns_whole (c : Thread nD τ) cc0_stg1_0 fullShare _)) $$ H1
  ihave G2 := (Entails.of_eq (owns_whole (c : Thread nD τ) cc0_stg2_0 fullShare _)) $$ H2
  ihave G3 := (Entails.of_eq (owns_whole (c : Thread nD τ) cc0_stg3_0 fullShare _)) $$ H3
  ihave G4 := (Entails.of_eq (owns_whole (c : Thread nD τ) cc0_stg4_0 fullShare _)) $$ H4
  ihave G5 := (Entails.of_eq (owns_whole (c : Thread nD τ) cc0_stg5_0 fullShare _)) $$ H5
  iapply (body_run (Av Wv) c κ _ _ _ _ _ (rfl : accOf (Wv c (Proc.devRef .tc main_v5)) (Wv c (Proc.devRef .tc main_arg1)) (Wv c (Proc.devRef .tc main_v18))
    (Wv c (Proc.devRef .tc main_v19)) (Wv c (Proc.devRef .tc main_arg4)) = Av Wv c) W _)
  isplitr [Hp]
  · unfold bodyPre inputs
    isplitl [Hrec]; · iexact Hrec
    isplitl [Hop]; · iexact Hop
    isplitl [Hcr]; · iexact Hcr
    isplitl [G0 G1 G2 G3 G4 Hs1 Hs2]
    · isplitl [G0]; · iexact G0
      isplitl [G1]; · iexact G1
      isplitl [G2]; · iexact G2
      isplitl [G3]; · iexact G3
      isplitl [G4]; · iexact G4
      isplitl [Hs1]; · iexact Hs1
      iexact Hs2
    isplitl [Hs0]; · iexact Hs0
    isplitl [Hs3]; · iexact Hs3
    isplitl [G5]; · iexists _; iexact G5
    iexact HO
  unfold bodyPost inputs Φ₁ scr Yk
  iintro ⟨Hb, Hd, ⟨G0, G1, G2, G3, G4, Hs1, Hs2⟩, Hs0, Hs3, G5, ⟨%W', HO⟩⟩
  isplitl [Hb Hd Hs0 Hs1 Hs2 Hs3 Hp]
  · isplitl [Hs0 Hs1 Hs2 Hs3]
    · isplitl [Hs0]; · iexact Hs0
      isplitl [Hs1]; · iexact Hs1
      isplitl [Hs2]; · iexact Hs2
      iexact Hs3
    isplitl [Hp]; · iexact Hp
    isplitl [Hd]; · iexact Hd
    iexact Hb
  isplitl [HO]; · iapply (owes_in Wv c _ 0 (owed_last Wv c) W'); iexact HO
  isplitl [G0]; · iapply (Entails.of_eq (owns_whole (c : Thread nD τ) cc0_stg0_0 fullShare _).symm) $$ G0
  isplitl [G1]; · iapply (Entails.of_eq (owns_whole (c : Thread nD τ) cc0_stg1_0 fullShare _).symm) $$ G1
  isplitl [G2]; · iapply (Entails.of_eq (owns_whole (c : Thread nD τ) cc0_stg2_0 fullShare _).symm) $$ G2
  isplitl [G3]; · iapply (Entails.of_eq (owns_whole (c : Thread nD τ) cc0_stg3_0 fullShare _).symm) $$ G3
  isplitl [G4]; · iapply (Entails.of_eq (owns_whole (c : Thread nD τ) cc0_stg4_0 fullShare _).symm) $$ G4
  iapply (Entails.of_eq (owns_whole (c : Thread nD τ) cc0_stg5_0 fullShare (outF (Av Wv))).symm) $$ G5

/-! ## The region's record -/

theorem own_sems (c : Dev nD) : (Pipeline.ownSems0 osem c : sProp 𝕄) = bigSep Finset.univ fun p : Fin 4 × Fin 31 => semVal (dmaC c p.1 p.2) 0 := rfl

/-- The kernel's copy cells open when the region starts. -/
theorem opening (c : Dev nD) : iprop(Tk Wv c ∗ Pipeline.ownSems0 osem c ∗ levAts L lv) ⊢ (|={Set.univ}=> Xk Wv c : sProp 𝕄) := by
  rw [own_sems]
  unfold Tk Xk ghost
  iintro ⟨⟨⟨%κ, #HR, Hat, Hop, Hd, Ht, Ht'⟩, Hcr⟩, Hs, #Hlev⟩
  imod (Rounds.cells_open ER (Rd (Av Wv)) Finset.univ (fun p : Fin 4 × Fin 31 => dmaC c p.1 p.2) (fun p => κ (dmaC c p.1 p.2)) (fun _ _ => Set.mem_univ _))
    $$ [Hop Hs] with Hgot
  · isplitl [Hop]
    · iapply (bigSep_with_persistent (R := records (Av Wv) κ) (Φ := fun p : Fin 4 × Fin 31 => openTok ER (dmaC c p.1 p.2)) fun p _ => (show
        iprop(records (Av Wv) κ ∗ openTok ER (dmaC c p.1 p.2)) ⊢ iprop(cellInv ER (Rd (Av Wv)) (κ (dmaC c p.1 p.2)) (dmaC c p.1 p.2) ∗ openTok ER (dmaC c p.1 p.2)) from by
          iintro ⟨#H, Ho⟩
          isplitr; · iapply (inv_of (Av Wv) κ (dma_mem c p.1 p.2)); iexact H
          iexact Ho))
      isplitr; · iexact HR
      iexact Hop
    · iexact Hs
  ihave H2 := (Entails.of_eq (bigSep_sep' _ _ _)) $$ Hgot
  icases H2 with ⟨Hats, #Hre⟩
  imodintro
  isplitr [Hcr]
  · iexists κ
    isplitr
    · unfold recs
      isplitr; · iexact HR
      isplitr; · iexact Hlev
      iexact Hre
    unfold opened
    isplitl [Hat]; · iexact Hat
    isplitl [Hats]; · iexact Hats
    isplitl [Hd]; · iexact Hd
    isplitl [Ht]; · iexact Ht
    iexact Ht'
  iexact Hcr

theorem dma_scoped : ∀ s : DmaSem sig, (SemLoc.dma s).isScoped .tc = true := by decide +kernel
theorem stage_sem : ∀ (w : Fin 6) (s : Fin (spec0 w).nbuf), ((spec0 w).sem s).val < 6 := by decide
theorem own_facts : Pipeline.OwnSemFacts spec0 osem where
  isScoped p := dma_scoped _
  inj p p' h := by
    have h' := dsem_inj (SemLoc.dma.inj h)
    exact Prod.ext h'.1 h'.2
  disj p w s h := by
    have hd := six_le_dsem p.1 p.2
    rw [SemLoc.dma.inj h] at hd
    exact absurd (stage_sem w s) (Nat.not_lt.mpr hd)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin (cfg0.N + 1)) (g : GSem nD τ sig) (i : Unit) (h : 0 < (dat (F := F) Wv c).owed t g i) :
    i ∈ L g ∧ (0 : ℕ) < lv g i := by
  have e : (dat (F := F) Wv c).owed t = if t.val = 0 then O₀ c else 0 := rfl
  rw [e] at h
  split at h
  · rcases O₀_pos h with ⟨j, rfl⟩ | ⟨j, rfl⟩ | ⟨j, rfl⟩
    · exact ⟨by rw [L_tc]; exact Finset.mem_singleton_self _, by rw [lv_bar]; decide⟩
    · exact ⟨by rw [L_tc]; exact Finset.mem_singleton_self _, by rw [lv_dma]; decide⟩
    · exact ⟨by rw [L_tc]; exact Finset.mem_singleton_self _, by rw [lv_dma]; decide⟩
  · exact absurd h (Nat.lt_irrefl 0)

/-- The buffers that ride beside the region's arrays. -/
abbrev restRefs : Finset (DevRef τ sig) := Pipeline.ucRefs τ sig \ Pipeline.arrRefs (τ := τ) spec0

theorem rest_same (c : Dev nD) : ∀ b ∈ restRefs \ ∅, Wn Wv c b = Wv c b := fun b hb => by
  have hb' : b ∉ Pipeline.arrRefs (τ := τ) spec0 := (Finset.mem_sdiff.mp (Finset.mem_sdiff.mp hb).1).2
  unfold Wn
  refine Function.update_of_ne (fun e => hb' ?_) _ _
  rw [e]; unfold Pipeline.arrRefs
  exact Finset.mem_map_of_mem _ (Finset.mem_image.mpr ⟨5, Finset.mem_univ _, rfl⟩)

theorem scr_eq (c : Dev nD) : (Pipeline.scopedRest (Pipeline.pin (pcfgs (F := F)) adm 0).spec c : sProp 𝕄) = scr (F := F) c := scopedRest0_eq c
theorem held_none (c : Dev nD) (W : Valuation τ sig (Elt F)) : (StableHlo.held (c.tc : Thread nD τ) ∅ W : sProp 𝕄) = BI.emp := by
  unfold StableHlo.held; exact BI.bigSep_empty

theorem entering (c : Dev nD) : iprop(Pipeline.scopedRest (Pipeline.pin (pcfgs (F := F)) adm 0).spec c ∗ (∃ r, prngReg c r)
    ∗ StableHlo.held (c.tc : Thread nD τ) ∅ (Wv c) ∗ Xk Wv c) ⊢ (pdats Wv 0 c).Φ 0 := by
  rw [show (pdats Wv 0 c).Φ 0 = Φ₀ Wv c from rfl, scr_eq]
  unfold Φ₀
  iintro ⟨Hs, Hp, -, HX⟩
  isplitl [Hs]; · iexact Hs
  isplitl [Hp]; · iexact Hp
  iexact HX

theorem leaving (c : Dev nD) : (pdats Wv 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Wn Wv c)
      ∗ Pipeline.ownSems0 osem c ∗ Yk (F := F) c) := by
  rw [show (pdats Wv 0 c).Φ (Fin.last (Pipeline.pin (pcfgs (F := F)) adm 0).N) = Φ₁ c from rfl, scr_eq, held_none, own_sems]
  unfold Φ₁ osem
  iintro ⟨Hs, Hp, Hd, HY⟩
  isplitl [Hs]; · iexact Hs
  isplitl [Hp]; · iexact Hp
  isplitr; · iempintro
  isplitl [Hd]; · iexact Hd
  iexact HY

theorem owed_first' (c : Dev nD) : (pdats (F := F) Wv 0 c).owed 0 = 0 + O₀ c := (owed_zero Wv c).trans (zero_add _).symm
theorem owed_last' (c : Dev nD) : (pdats (F := F) Wv 0 c).owed (Fin.last _) = 0 := owed_last Wv c

theorem shares (c : Dev nD) (w : Fin 6) : (pdats (F := F) Wv 0 c).share w = fullShare := by
  fin_cases w <;> rfl

theorem stage_lev (c : Dev nD) (w : Fin 6) (s : Fin (spec0 w).nbuf) : lv ((c : Thread nD τ), .dma ((spec0 w).sem s)) () ≤ 0 := by
  show (if 6 ≤ ((spec0 w).sem s).val then _ else 0) ≤ 0
  rw [if_neg (Nat.not_le.mpr (stage_sem w s))]

set_option backward.isDefEq.respectTransparency.types false in
def region : Pipeline.RegionSeg (pcfgs (F := F)) adm (pdats Wv) () defs₀ 𝒱₀ L lv 0 :=
  Pipeline.RegionSeg.ofTalk (pcfgs (F := F)) adm (pdats Wv) () defs₀ 𝒱₀ L lv 0 osem own_facts
    ∅ restRefs (Finset.empty_subset _) kit rfl (fun c => (body_obl Wv c).loose)
    (fun _ => 0) O₀ (owed_first' Wv) (owed_last' Wv) (fun _ => rfl) (shares Wv)
    Wv (Wn Wv) (rest_same Wv)
    (Tk Wv) (Yk (F := F)) (Xk Wv) (Yk (F := F)) (opening Wv) (entering Wv) (leaving Wv)
    (fun c => by iintro H; imodintro; iexact H)
    (fun _ => 0)
    ⟨fun c w s => by rw [L_tc]; exact Finset.mem_singleton_self _, fun c w s => stage_lev c w s, fun c t g i h => cut Wv c t g i h⟩
    (fun _ => iprop(emp))
    (fun c w => arr_first Wv c w) (fun c w => arr_last Wv c w)

/-- The region is entered from every unscoped buffer at Wv, and left with every one at Wn. -/
theorem region_pre (c : Dev nD) : iprop(StableHlo.held (c : Thread nD τ) (Pipeline.ucRefs τ sig) (Wv c)
    ∗ (∃ r, prngReg c r) ∗ Tk Wv c ∗ ∃ W, owes (c : Thread nD τ) (O₀ c) W) ⊢ (region Wv).pre c := by
  show _ ⊢ iprop(StableHlo.held (c.tc : Thread nD τ) (Pipeline.arrRefs (τ := τ) (pcfgs (F := F) 0).spec) (Wv c) ∗ (∃ r, prngReg c r)
    ∗ (StableHlo.held (c.tc : Thread nD τ) restRefs (Wv c) ∗ emp) ∗ Tk Wv c ∗ ∃ Wd, owes (c : Thread nD τ) (0 + O₀ c) Wd)
  rw [zero_add (O₀ c), StableHlo.held_sub_split (c.tc : Thread nD τ) (Pipeline.arrRefs_sub_ucRefs (τ := τ) spec0 winFacts0.arr_unscoped) (Wv c)]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem region_post (c : Dev nD) : (region Wv).post c ⊢ iprop(StableHlo.held (c : Thread nD τ) (Pipeline.ucRefs τ sig) (Wn Wv c)
    ∗ (∃ r, prngReg c r) ∗ semVal (barC c) 0 ∗ ∃ W, owes (c : Thread nD τ) (0 : CellTallies nD τ sig Unit) W) := by
  show iprop(StableHlo.held (c.tc : Thread nD τ) (Pipeline.arrRefs (τ := τ) (pcfgs (F := F) 0).spec) (Wn Wv c) ∗ (∃ r, prngReg c r)
    ∗ (StableHlo.held (c.tc : Thread nD τ) restRefs (Wn Wv c) ∗ emp) ∗ Yk (F := F) c ∗ ∃ Wd, owes (c : Thread nD τ) (0 : CellTallies nD τ sig Unit) Wd) ⊢ _
  rw [StableHlo.held_sub_split (c.tc : Thread nD τ) (Pipeline.arrRefs_sub_ucRefs (τ := τ) spec0 winFacts0.arr_unscoped) (Wn Wv c)]
  unfold Yk
  iintro ⟨Ha, Hp, ⟨Hr, -⟩, HY, HO⟩
  isplitl [Ha Hr]
  · isplitl [Ha]; · iexact Ha
    iexact Hr
  isplitl [Hp]; · iexact Hp
  isplitl [HY]; · iexact HY
  iexact HO

end Cert.KernelIdeal.Body

end
-- ==== Proof.Deal.lean ====
/-
  What the launch deals: the tokens of every cell's duties, each to the device that pays it, and the credit of what the devices
  owe each other at launch, each to the device that waits for it.
-/
module

public import proofs.«01_k».proof.Proof.Region

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Going round the devices at one offset -/

def peerE (i : Fin 31) : Dev nD ≃ Dev nD :=
  ⟨fun c => peer c i, fun c => peer c (opp i), fun c => peer_peer c i, fun c => peer_peer' c i⟩

theorem swapped (Φ : Dev nD → Fin 31 → sProp 𝕄) :
    (bigSep Finset.univ fun c => bigSep Finset.univ fun i => Φ c i) = bigSep Finset.univ fun i => bigSep Finset.univ fun c => Φ c i :=
  (bigSep_univ_prod fun p : Dev nD × Fin 31 => Φ p.1 p.2).symm.trans
    ((bigSep_univ_equiv (Equiv.prodComm (Fin 31) (Dev nD)) fun p : Dev nD × Fin 31 => Φ p.1 p.2).trans (bigSep_univ_prod _))

/-- Everything indexed by a device and an offset, dealt to the device's peer at that offset. -/
theorem deal (Φ : Dev nD → Fin 31 → sProp 𝕄) :
    (bigSep Finset.univ fun c => bigSep Finset.univ fun i => Φ c i) = bigSep Finset.univ fun c => bigSep Finset.univ fun i => Φ (peer c i) i := by
  rw [swapped Φ, bigSep_congr fun i _ => bigSep_univ_equiv (peerE i) fun c => Φ c i]
  exact (swapped fun c i => Φ (peer c i) i).symm

theorem sum_peer (f : Dev nD → Fin 31 → ℕ) : (∑ d, ∑ i, f (peer d i) i) = ∑ i, ∑ d, f d i := by
  rw [Finset.sum_comm]
  exact Finset.sum_congr rfl fun i _ => Equiv.sum_comp (peerE i) fun d => f d i

/-! ## Tokens -/

def barTokEmb : Dev nD × Fin 31 ↪ GSem nD τ sig × ℕ × Fin 31 :=
  ⟨fun p => (barC p.1, 0, p.2), fun _ _ h =>
    Prod.ext (congrArg (fun t : GSem nD τ sig × ℕ × Fin 31 => t.1.1.1) h) (congrArg (fun t : GSem nD τ sig × ℕ × Fin 31 => t.2.2) h)⟩
def dmaTokEmb : Dev nD × (Fin 4 × Fin 31) ↪ GSem nD τ sig × ℕ × Fin 31 :=
  ⟨fun p => (dmaEmb p, 0, 0), fun _ _ h => dmaEmb.injective (congrArg Prod.fst h)⟩
def barToks : Finset (GSem nD τ sig × ℕ × Fin 31) := Finset.univ.map barTokEmb
def dmaToks : Finset (GSem nD τ sig × ℕ × Fin 31) := Finset.univ.map dmaTokEmb

theorem bar_ne_dma (c d : Dev nD) (k : Fin 4) (j : Fin 31) : (barC c : GSem nD τ sig) ≠ dmaC d k j := fun h => by
  have h' : (SemLoc.reg barrier0 : SemLoc sig) = .dma (dsem k j) := congrArg Prod.snd h
  cases h'

theorem toks_disjoint : Disjoint barToks dmaToks := by
  rw [Finset.disjoint_left]
  rintro g h₁ h₂
  obtain ⟨p, -, rfl⟩ := Finset.mem_map.mp h₁
  obtain ⟨p', -, h⟩ := Finset.mem_map.mp h₂
  exact bar_ne_dma p.1 p'.1 p'.2.1 p'.2.2 (congrArg Prod.fst h).symm
theorem cells_disjoint : Disjoint (barCells : Finset (GSem nD τ sig)) dmaCells := by
  rw [Finset.disjoint_left]
  rintro g h₁ h₂
  obtain ⟨c, -, rfl⟩ := Finset.mem_map.mp h₁
  obtain ⟨p', -, h⟩ := Finset.mem_map.mp h₂
  exact bar_ne_dma c p'.1 p'.2.1 p'.2.2 h.symm

/-- The token of a copy cell's one duty. -/
abbrev tokOf (c : Dev nD) (k : Fin 4) (j : Fin 31) : sProp 𝕄 := dutyTok ER (dmaC c k j) 0 0

theorem bar_toks : bigSep barToks (fun x => (dutyTok ER x.1 x.2.1 x.2.2 : sProp 𝕄))
    = bigSep Finset.univ fun c => bigSep Finset.univ fun i => dutyTok ER (barC (peer c i)) 0 i := by
  unfold barToks
  rw [bigSep_map, bigSep_univ_prod]
  exact deal fun c i => dutyTok ER (barC c) 0 i

/-- The tokens of one array's landing cells, each to the device whose copy lands there. -/
theorem landing_toks (k : Fin 4) : (bigSep Finset.univ fun c => bigSep Finset.univ fun j => tokOf (F := F) c k j)
    = bigSep Finset.univ fun c => bigSep Finset.univ fun i => tokOf (peer c i) k (opp i) := by
  rw [bigSep_congr fun c _ => bigSep_opp fun j => tokOf (F := F) c k j]
  exact deal fun c i => tokOf c k (opp i)
theorem sending_toks (k : Fin 4) : (bigSep Finset.univ fun c => bigSep Finset.univ fun j => tokOf (F := F) c k j)
    = bigSep Finset.univ fun c => bigSep Finset.univ fun i => tokOf c k (opp i) :=
  bigSep_congr fun c _ => bigSep_opp fun j => tokOf (F := F) c k j

theorem cp_split (c : Dev nD) (ks k : Fin 4) : bigSep Finset.univ (cpToks (F := F) c ks k)
    = iprop((bigSep Finset.univ fun i => tokOf (F := F) c ks (opp i)) ∗ bigSep Finset.univ fun i => tokOf (peer c i) k (opp i)) := sep2 _ _

theorem dma_toks : bigSep dmaToks (fun x => (dutyTok ER x.1 x.2.1 x.2.2 : sProp 𝕄))
    ⊢ bigSep Finset.univ fun c => iprop(bigSep Finset.univ (cpToks (F := F) c 0 1) ∗ bigSep Finset.univ (cpToks (F := F) c 2 3)) := by
  have e : bigSep dmaToks (fun x => (dutyTok ER x.1 x.2.1 x.2.2 : sProp 𝕄)) = iprop((bigSep Finset.univ fun c => bigSep Finset.univ fun j => tokOf (F := F) c 0 j)
      ∗ (bigSep Finset.univ fun c => bigSep Finset.univ fun j => tokOf (F := F) c 1 j) ∗ (bigSep Finset.univ fun c => bigSep Finset.univ fun j => tokOf (F := F) c 2 j)
      ∗ bigSep Finset.univ fun c => bigSep Finset.univ fun j => tokOf (F := F) c 3 j) := by
    unfold dmaToks
    rw [bigSep_map, bigSep_univ_prod, ← bigSep_sep', ← bigSep_sep', ← bigSep_sep']
    refine bigSep_congr fun c _ => ?_
    exact four fun k j => tokOf (F := F) c k j
  rw [e, sending_toks 0, sending_toks 2, landing_toks 1, landing_toks 3, bigSep_sep', bigSep_congr fun c _ => cp_split (F := F) c 0 1,
    bigSep_congr fun c _ => cp_split (F := F) c 2 3, bigSep_sep', bigSep_sep']
  iintro ⟨H0, H1, H2, H3⟩
  isplitl [H0 H1]
  · isplitl [H0] <;> iassumption
  isplitl [H2] <;> iassumption

/-! ## Credits -/

theorem debtBar_at (d : Dev nD) (g : GSem nD τ sig) : debtBar d idx31 g () = ∑ i : Fin 31, if g = barC (peer d i) then 1 else 0 := by
  unfold debtBar
  rw [← List.sum_toFinset _ idx31_nodup, idx31_univ, Finset.sum_apply, Finsupp.finsetSum_apply]
  refine Finset.sum_congr rfl fun i _ => ?_
  rw [tallyAt_apply]
  exact if_congr ⟨fun h => h.1, fun h => ⟨h, rfl⟩⟩ rfl rfl
theorem debtDma_at (d : Dev nD) (k : Fin 4) (g : GSem nD τ sig) :
    debtDma d k idx31 g () = ∑ i : Fin 31, if g = dmaC (peer d i) k (opp i) then NC else 0 := by
  unfold debtDma
  rw [← List.sum_toFinset _ idx31_nodup, idx31_univ, Finset.sum_apply, Finsupp.finsetSum_apply]
  refine Finset.sum_congr rfl fun i _ => ?_
  rw [tallyAt_apply]
  exact if_congr ⟨fun h => h.1, fun h => ⟨h, rfl⟩⟩ rfl rfl

theorem owed_at (d : Dev nD) (g : GSem nD τ sig) : O₀ d g () = debtBar d idx31 g () + (debtDma d 1 idx31 g () + debtDma d 3 idx31 g ()) := by
  unfold O₀; rw [Pi.add_apply, Finsupp.add_apply, Pi.add_apply, Finsupp.add_apply]

theorem bar_eq_iff (c d : Dev nD) : (barC c : GSem nD τ sig) = barC d ↔ c = d :=
  ⟨fun h => congrArg (fun g : GSem nD τ sig => g.1.1) h, fun h => by rw [h]⟩
theorem dma_eq_iff (c d : Dev nD) (k k' : Fin 4) (j j' : Fin 31) : (dmaC c k j : GSem nD τ sig) = dmaC d k' j' ↔ c = d ∧ k = k' ∧ j = j' :=
  ⟨fun h => by
    have h' : ((c, (k, j)) : Dev nD × (Fin 4 × Fin 31)) = (d, (k', j')) := dmaEmb.injective h
    exact ⟨congrArg Prod.fst h', congrArg (fun p => p.2.1) h', congrArg (fun p => p.2.2) h'⟩,
   fun ⟨h1, h2, h3⟩ => by rw [h1, h2, h3]⟩

theorem sum_bar_bar (c : Dev nD) : (∑ d : Dev nD, debtBar d idx31 (barC c) ()) = 31 := by
  rw [Finset.sum_congr rfl fun d _ => debtBar_at d (barC c), sum_peer fun d _ => if (barC c : GSem nD τ sig) = barC d then 1 else 0,
    Finset.sum_congr rfl fun i _ => (Finset.sum_congr rfl fun d _ => if_congr (bar_eq_iff c d) rfl rfl).trans
      ((Finset.sum_ite_eq Finset.univ c fun _ => 1).trans (if_pos (Finset.mem_univ c)))]
  rw [Finset.sum_const, Finset.card_univ, Fintype.card_fin, smul_eq_mul, mul_one]
theorem sum_bar_dma (c : Dev nD) (k : Fin 4) (j : Fin 31) : (∑ d : Dev nD, debtBar d idx31 (dmaC c k j) ()) = 0 :=
  Finset.sum_eq_zero fun d _ => by
    rw [debtBar_at]
    exact Finset.sum_eq_zero fun i _ => if_neg fun h => bar_ne_dma _ _ _ _ h.symm
theorem sum_dma_bar (c : Dev nD) (k : Fin 4) : (∑ d : Dev nD, debtDma d k idx31 (barC c) ()) = 0 :=
  Finset.sum_eq_zero fun d _ => by
    rw [debtDma_at]
    exact Finset.sum_eq_zero fun i _ => if_neg fun h => bar_ne_dma _ _ _ _ h
theorem sum_dma_ne (c : Dev nD) (k k' : Fin 4) (h : k ≠ k') (j : Fin 31) : (∑ d : Dev nD, debtDma d k' idx31 (dmaC c k j) ()) = 0 :=
  Finset.sum_eq_zero fun d _ => by
    rw [debtDma_at]
    exact Finset.sum_eq_zero fun i _ => if_neg fun h' => h ((dma_eq_iff _ _ _ _ _ _).mp h').2.1
theorem sum_dma_dma (c : Dev nD) (k : Fin 4) (j : Fin 31) : (∑ d : Dev nD, debtDma d k idx31 (dmaC c k j) ()) = NC := by
  rw [Finset.sum_congr rfl fun d _ => debtDma_at d k (dmaC c k j), sum_peer fun d i => if (dmaC c k j : GSem nD τ sig) = dmaC d k (opp i) then NC else 0,
    Finset.sum_comm, Finset.sum_eq_single c, Finset.sum_eq_single (opp j)]
  · exact if_pos (by rw [opp_opp])
  · exact fun i _ hi => if_neg fun h => hi (by rw [((dma_eq_iff _ _ _ _ _ _).mp h).2.2, opp_opp])
  · exact fun h => absurd (Finset.mem_univ _) h
  · exact fun d _ hd => Finset.sum_eq_zero fun i _ => if_neg fun h => hd ((dma_eq_iff _ _ _ _ _ _).mp h).1.symm
  · exact fun h => absurd (Finset.mem_univ _) h

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]
theorem launch_bar (c : Dev nD) :
    tallyOn (barC c) (launchCredit (Pipeline.owing O₀) 0 (barC c)) = (tallyAt (barC c) () 31 : CellTallies nD τ sig Unit) := by
  refine launch_at _ _ ?_
  rw [Finset.sum_congr rfl fun d _ => owed_at d (barC c), Finset.sum_add_distrib, Finset.sum_add_distrib, sum_bar_bar, sum_dma_bar, sum_dma_bar, Nat.add_zero]
theorem launch_dma (c : Dev nD) (k : Fin 4) (h : k = 1 ∨ k = 3) (j : Fin 31) :
    tallyOn (dmaC c k j) (launchCredit (Pipeline.owing O₀) 0 (dmaC c k j)) = (tallyAt (dmaC c k j) () NC : CellTallies nD τ sig Unit) := by
  refine launch_at _ _ ?_
  rw [Finset.sum_congr rfl fun d _ => owed_at d (dmaC c k j), Finset.sum_add_distrib, Finset.sum_add_distrib, sum_bar_dma, Nat.zero_add]
  rcases h with rfl | rfl
  · rw [sum_dma_dma, sum_dma_ne c 1 3 (by decide), Nat.add_zero]
  · rw [sum_dma_dma, sum_dma_ne c 3 1 (by decide), Nat.zero_add]

/-- The cells a device has credit on, among its semaphores. -/
def waitEmb : Option (Fin 2 × Fin 31) ↪ SemLoc sig where
  toFun | none => .reg barrier0
        | some (k, j) => .dma (dsem (if k = 0 then 1 else 3) j)
  inj' := by
    rintro (_ | ⟨k, j⟩) (_ | ⟨k', j'⟩) h
    · rfl
    · cases h
    · cases h
    · have h' := dsem_inj (SemLoc.dma.inj h)
      have hk : k = k' := by
        exact (show ∀ k k' : Fin 2, (if k = 0 then (1 : Fin 4) else 3) = (if k' = 0 then 1 else 3) → k = k' from by decide) k k' h'.1
      rw [hk, h'.2]

theorem creds_of (c : Dev nD) : (Pipeline.launchCred O₀ c : sProp 𝕄) ⊢ creds (F := F) c := by
  unfold Pipeline.launchCred creds
  refine (bigSep_subset (Finset.subset_univ (Finset.univ.map waitEmb))).trans ?_
  rw [bigSep_map, bigSep_univ_at _ none, show (Finset.univ.erase none : Finset (Option (Fin 2 × Fin 31))) = Finset.univ.map Function.Embedding.some from by decide +kernel,
    bigSep_map, bigSep_univ_prod, BI.bigSep_fin_two]
  have hd : ∀ k : Fin 4, k = 1 ∨ k = 3 → (bigSep Finset.univ fun j => (cred (tallyOn (dmaC c k j) (launchCredit (Pipeline.owing O₀) 0 (dmaC c k j))) : sProp 𝕄))
      = bigSep Finset.univ fun j => cred (tallyAt (dmaC c k j) () NC) := fun k h => bigSep_congr fun j _ => by rw [launch_dma c k h j]
  rw [← hd 1 (.inl rfl), ← hd 3 (.inr rfl), ← launch_bar c]
  exact BI.Entails.refl _

end Cert.KernelIdeal.Body

end
-- ==== Proof.Start.lean ====
/-
  The run of the whole program over any float values: the launch deals every device its ghost state and credit, each device runs its
  host operations, the kernel region and the last reshape, and every counter ends at zero.
-/
module

public import proofs.«01_k».proof.Proof.Deal
public import Idealize.ShloMosaic.Lib.Quiescent

@[expose] public section

set_option maxRecDepth 65536

noncomputable section

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What the kernel region leaves in the arrays. -/
def outs : Outs (F := F) := fun _ r c => Wn (V1 m) c (Proc.devRef .tc r)

theorem V2_eq (c : Dev nD) : V2 m (outs m) c = Wn (V1 m) c := by
  have h : outs m 2 main_v20 c = outV (V1 m) := Wn_out (V1 m) c
  unfold V2 Wn
  rw [h]

/-! ## The launch -/

def u₀ : UU :=
  (initOf (Pipeline.cells (Pipeline.pin (pcfgs (F := F)) adm) cellOf_inj) (Pipeline.launchToks (Pipeline.pin (pcfgs (F := F)) adm) cellOf_inj),
    launchOf barCells dmaCells (barToks ∪ dmaToks))

/-- A resource kept whole with one device until it is dealt. -/
def atDev (c₀ : Dev nD) (X : sProp 𝕄) (c : Dev nD) : sProp 𝕄 := if c = c₀ then X else iprop(emp)
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

def G : Dev nD → sProp 𝕄 := atDev 0 (BI.own (ER (launchOf barCells dmaCells (barToks ∪ dmaToks))))

/-- What of the protocol's ghost state is one device's alone. -/
def mine (c : Dev nD) : sProp 𝕄 :=
  iprop(atPos ER (barC c) 0 ∅ 0 ∗ (bigSep Finset.univ fun p : Fin 4 × Fin 31 => openTok ER (dmaC c p.1 p.2))
    ∗ (bigSep Finset.univ fun i : Fin 31 => dutyTok ER (barC (peer c i)) 0 i) ∗ bigSep Finset.univ (cpToks (F := F) c 0 1) ∗ bigSep Finset.univ (cpToks (F := F) c 2 3))

/-- The rest of what a device starts with. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)

/-- What rides along the first host operations, and the last. -/
def E : Fin 2 → Dev nD → sProp 𝕄 := fun i c =>
  if i = 0 then iprop((∃ r, prngReg c r) ∗ Tk (V1 m) c ∗ ∃ W, owes (c : Thread nD τ) (O₀ c) W)
  else iprop((∃ r, prngReg c r) ∗ semVal (barC c) 0 ∗ ∃ W, owes (c : Thread nD τ) (0 : CellTallies nD τ sig Unit) W)
theorem E_0 (c : Dev nD) : E m 0 c = iprop((∃ r, prngReg c r) ∗ Tk (V1 m) c ∗ ∃ W, owes (c : Thread nD τ) (O₀ c) W) := if_pos rfl
theorem E_1 (c : Dev nD) : E m 1 c = iprop((∃ r, prngReg c r) ∗ semVal (barC c) 0 ∗ ∃ W, owes (c : Thread nD τ) (0 : CellTallies nD τ sig Unit) W) :=
  if_neg (by decide)

def T₀ (c : Dev nD) : sProp 𝕄 := iprop(StableHlo.held (c : Thread nD τ) (Pipeline.ucRefs τ sig) (V0 m c) ∗ E m 0 c)
def Tₙ (c : Dev nD) : sProp 𝕄 := iprop(StableHlo.held (c : Thread nD τ) (Pipeline.ucRefs τ sig) (V3 m (outs m) c) ∗ semVal (barC c) 0)

theorem T₀_intro (κ : GSem nD τ sig → ℕ) (c : Dev nD) : iprop(records (Av (V1 m)) κ ∗ (mine (F := F) c ∗ bundle m c)) ⊢ T₀ m c := by
  unfold T₀ bundle mine
  rw [E_0]
  unfold Tk ghost
  iintro ⟨#HR, ⟨H1, H2, H3, H4, H5⟩, Hh, Hc, HO, Hp⟩
  isplitl [Hh]; · iexact Hh
  isplitl [Hp]; · iexact Hp
  isplitr [HO]
  · isplitr [Hc]
    · iexists κ
      isplitr; · iexact HR
      isplitl [H1]; · iexact H1
      isplitl [H2]; · iexact H2
      isplitl [H3]; · iexact H3
      isplitl [H4] <;> iassumption
    · iexact Hc
  · iexists ∅; iexact HO

theorem reg_only : ∀ s : Sem sig, s = barrier0 := by decide
theorem unscoped_eq (sm : SemLoc sig) (h : sm.isScoped .tc = false) : sm = .reg barrier0 := by
  cases sm with
  | reg s => rw [reg_only s]
  | dma s => rw [dma_scoped s] at h; cases h
theorem bar_unscoped : (SemLoc.reg barrier0 : SemLoc sig).isScoped .tc = false := by decide
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barrier0} from by
    ext sm
    rw [Finset.mem_filter, Finset.mem_singleton]
    exact ⟨fun h => unscoped_eq sm (Bool.eq_false_iff.mpr h.2), fun h => ⟨Finset.mem_univ _, by rw [h, bar_unscoped]; decide⟩⟩, BI.bigSep_singleton]

theorem pair_up {I : Type} (s : Finset I) (Φ Ψ : I → sProp 𝕄) : iprop(bigSep s Φ ∗ bigSep s Ψ) ⊢ bigSep s fun i => iprop(Φ i ∗ Ψ i) :=
  Entails.of_eq (bigSep_sep' _ _ _).symm
theorem unpair {I : Type} (s : Finset I) (Φ Ψ : I → sProp 𝕄) : (bigSep s fun i => iprop(Φ i ∗ Ψ i)) ⊢ iprop(bigSep s Φ ∗ bigSep s Ψ) :=
  Entails.of_eq (bigSep_sep' _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
    unfold bundle
    iintro ⟨Hh, Hus, HO, Hcr, Hp, HG⟩
    ihave Hc := (creds_of (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun p : Fin 4 × Fin 31 => openTok ER (dmaC c p.1 p.2)) :=
    Entails.of_eq (by rw [bigSep_map, bigSep_univ_prod]; rfl)
  have htok : bigSep (barToks ∪ dmaToks) (fun x => (dutyTok ER x.1 x.2.1 x.2.2 : sProp 𝕄))
      ⊢ iprop(bigSep barToks (fun x => (dutyTok ER x.1 x.2.1 x.2.2 : sProp 𝕄)) ∗ bigSep dmaToks (fun x => (dutyTok ER x.1 x.2.1 x.2.2 : sProp 𝕄))) :=
    Entails.of_eq (BI.bigSep_union toks_disjoint)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (unpair _ _ _) $$ H'; icases H2 with ⟨HB, H3⟩
  ihave H4 := (unpair _ _ _) $$ H3; icases H4 with ⟨Hv, HG⟩
  ihave Hu := (show bigSep Finset.univ (G (F := F)) ⊢ BI.own (ER (launchOf barCells dmaCells (barToks ∪ dmaToks))) from
    Entails.of_eq (bigSep_atDev (F := F) 0 (BI.own (ER (launchOf barCells dmaCells (barToks ∪ dmaToks)))))) $$ HG
  imod (Rounds.fund_launch ER (Rd (Av (V1 m))) cells_disjoint (fun g _ h => h) (barToks ∪ dmaToks)) $$ [Hv Hu] with ⟨%κ, -, #Hinv, #Hr, Hat, Hopen, Htok⟩
  · isplitl [Hv]
    · iapply hv $$ Hv
    · iexact Hu
  ihave Htok' := htok $$ Htok
  icases Htok' with ⟨HtB, HtD⟩
  imodintro
  iapply (bigSep_with_persistent (R := records (Av (V1 m)) κ) (Φ := fun c => iprop(mine (F := F) c ∗ bundle m c)) fun c _ => T₀_intro m κ c)
  isplitr
  · unfold records
    isplitr; · iexact Hinv
    iexact Hr
  iapply (pair_up (F := F))
  isplitr [HB]
  · unfold mine
    iapply (pair_up (F := F)); isplitl [Hat]; · iapply hat $$ Hat
    iapply (pair_up (F := F)); isplitl [Hopen]; · iapply hopen $$ Hopen
    iapply (pair_up (F := F)); isplitl [HtB]; · iapply (Entails.of_eq (bar_toks (F := F))) $$ HtB
    iapply (dma_toks (F := F)) $$ HtD
  · iexact HB

/-! ## The run -/

/-- What a device's memory holds at the end. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v21) = V3 m (outs m) c (Proc.devRef .tc main_v21)

set_option backward.isDefEq.respectTransparency.types false in
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats (V1 m)) () cellOf_inj EP defs₀ 𝒱₀ L lv m ρ main
    (segs m (outs m) 𝒱₀ L lv (E m) () (pdats (V1 m)) (region (V1 m)))
    (fun c Q => by
      rewrite [main_chain c, Pipeline.Seg.run_eq_chain,
        show (segs m (outs m) 𝒱₀ L lv (E m) () (pdats (V1 m)) (region (V1 m)) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atDev]; iexact HX)
    (T₀ := T₀ m) (Tₙ := Tₙ m)
    (hch := fun c => ⟨.rfl, ?pre, ?post, ?last⟩)
    (hinit := init m ρ)
    (QY := fun c s => Ends m c s ∧ s.sem (barC c) = 0)
    (hfin := fun c s' => ?fin)
    (hQ := fun s h hs => ⟨fun c => (h c).1, sem_eq_zero hs fun c sm hsm => by
        obtain rfl := unscoped_eq sm hsm
        exact (h c).2⟩)
  case pre =>
    refine BIBase.Entails.trans ?_ (region_pre (V1 m) c)
    show iprop(StableHlo.held (c : Thread nD τ) (Pipeline.ucRefs τ sig) (V1 m c) ∗ E m 0 c) ⊢ _
    rw [E_0]
  case post =>
    refine (region_post (V1 m) c).trans ?_
    show _ ⊢ iprop(StableHlo.held (c : Thread nD τ) (Pipeline.ucRefs τ sig) (V2 m (outs m) c) ∗ E m 1 c)
    rw [E_1, V2_eq]
  case last =>
    show iprop(StableHlo.held (c : Thread nD τ) (Pipeline.ucRefs τ sig) (V3 m (outs m) c) ∗ E m 1 c) ⊢ _
    rw [E_1]
    unfold Tₙ
    iintro ⟨Hh, -, Hb, HO⟩
    isplitr [HO]
    · isplitl [Hh] <;> iassumption
    · iexact HO
  case fin =>
    unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      refine ⟨⟨(h (Proc.devRef .tc main_arg0) (Finset.mem_filter.mpr ⟨StableHlo.devRef_mem_tcRefs main_arg0, by decide⟩)).trans (V3_main_arg0 m _ c),
        (h (Proc.devRef .tc main_arg1) (Finset.mem_filter.mpr ⟨StableHlo.devRef_mem_tcRefs main_arg1, by decide⟩)).trans (V3_main_arg1 m _ c),
        (h (Proc.devRef .tc main_arg2) (Finset.mem_filter.mpr ⟨StableHlo.devRef_mem_tcRefs main_arg2, by decide⟩)).trans (V3_main_arg2 m _ c),
        (h (Proc.devRef .tc main_arg3) (Finset.mem_filter.mpr ⟨StableHlo.devRef_mem_tcRefs main_arg3, by decide⟩)).trans (V3_main_arg3 m _ c),
        (h (Proc.devRef .tc main_arg4) (Finset.mem_filter.mpr ⟨StableHlo.devRef_mem_tcRefs main_arg4, by decide⟩)).trans (V3_main_arg4 m _ c),
        h (Proc.devRef .tc main_v21) (Finset.mem_filter.mpr ⟨StableHlo.devRef_mem_tcRefs main_v21, by decide⟩)⟩, by simpa using hb⟩
    · iexact HSI

end Cert.KernelIdeal.Body

end
-- ==== Proof.Frames.lean ====
/-
  The frames of the three programs. The kernel at its own floats and at the extended reals is one text, so one run gives both.
-/
module

public import proofs.«01_k».proof.Defs
public import proofs.«01_k».proof.Proof.Start
public import proofs.«01_k».proof.Proof.Gen.Kernel
public import proofs.«01_k».proof.Proof.Gen.ReferenceIdeal.Run

@[expose] public section

set_option maxRecDepth 65536

noncomputable section

namespace Cert.Proof

open Idealize.ShloMosaic Idealize.SL.Sem

section AnyFloats

open Cert.KernelIdeal Idealize.ShloMosaic.TcCoe

variable {F : FTy → Type} [FloatOps F]

theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    have e := h.1 c
    ⟨e.1, e.2.1, e.2.2.1, e.2.2.2.1, e.2.2.2.2.1⟩, h.2⟩) (Cert.KernelIdeal.Body.run_main m ρ)

end AnyFloats

theorem frame_kernelIdeal : Cert.quiescent_KernelIdeal := fun m ρ _ => frame_any (F := Ideal) m ρ

/-- The two printings of the body are one function of the device. -/
theorem body_same {F : FTy → Type} [FloatOps F] :
    Cert.Kernel.cc0__body (F := F) = Cert.KernelIdeal.cc0__body (F := F) := rfl

/-- So the body tables agree, label by label (there is one). -/
theorem table_same {F : FTy → Type} [FloatOps F] :
    Cert.Kernel.defs₀ (F := F) = Cert.KernelIdeal.defs₀ (F := F) := by
  unfold Cert.Kernel.defs₀ Cert.KernelIdeal.defs₀
  refine congrArg Defs.onTc ?_
  funext l a
  fin_cases l
  obtain ⟨t, s⟩ := a
  rfl

/-- And so do the tables of the whole programs. -/
theorem defs_same {F : FTy → Type} [FloatOps F] :
    Cert.Kernel.defs (F := F) = Cert.KernelIdeal.defs (F := F) := by
  unfold Cert.Kernel.defs Cert.KernelIdeal.defs
  exact congrArg (Pipeline.defs (Cert.KernelIdeal.pcfgs (F := F))) table_same

theorem main_same {F : FTy → Type} [FloatOps F] :
    Cert.Kernel.main (F := F) = Cert.KernelIdeal.main (F := F) := rfl

theorem frame_kernel : Cert.quiescent_Kernel := fun m ρ _ => by
  have h := frame_any (F := Bits) m ρ
  rw [← defs_same, ← main_same] at h
  exact h

/-- The reference has no semaphores at all. -/
theorem no_sems : Cert.ReferenceIdeal.sig.nSem + Cert.ReferenceIdeal.sig.nDmaSem = 0 := rfl

theorem frame_reference : Cert.quiescent_ReferenceIdeal := fun m ρ _ =>
  (θ_run Cert.ReferenceIdeal.defs _ _).mono (fun s h => ⟨fun c => (h c).2, sem_eq_zero_of_no_sems no_sems s.2⟩)
    (Cert.ReferenceIdeal.Value.run (F := Ideal) m ρ)

end Cert.Proof

end
-- ==== Proof.Host.lean ====
/-
  The host operations around the kernel: what each of the kernel's operands holds, and the result.
-/
module

public import proofs.«01_k».proof.Proof.Start
public import Idealize.ShloMosaic.Lib.Pointwise
public import Idealize.ShloMosaic.Lib.StableHlo.RunRead

@[expose] public section

set_option maxRecDepth 65536

noncomputable section

namespace Cert.KernelIdeal.Body

open Idealize.ShloMosaic Idealize.ShloMosaic.TcCoe Cert.KernelIdeal Cert.KernelIdeal.Gen

variable {F : FTy → Type} [FloatOps F]
variable (m : (ℓ : Loc nD τ sig) → Buf (Elt F) ℓ)

/-- Where a device's heads start in the keys and the values. -/
def starts (c : Dev nD) : Fin 3 → Int := ![0, 8 * (c.val : Int), 0]
/-- A device's heads of the keys or the values, the head first. -/
def heads (a : Vec F S1x1024x256x128 .f32) (c : Dev nD) : Vec F S8x1024x128 .f32 :=
  transpose S8x1024x128 [1, 0, 2] (Host.dynamicSlice S1024x8x128 (shapeCast S1024x256x128 a shapeCasts_S1x1024x256x128_S1024x256x128) (starts c)
    sliceFits_S1024x256x128_S1024x8x128) transposes_S1024x8x128_S8x1024x128_1_0_2

/-- The first head's number, as the host computes it. -/
theorem start_word : ∀ c : Dev nD, BitVec.toInt
    (select (cmpi .slt (muli (id (Host.remui (Host.divui (constantI S_ 32 (Dev.word c)) (constantI S_ 32 1#32)) (constantI S_ 32 32#32))) (constantI S_ 32 8#32)) (constantI S_ 32 0#32))
      (addi (muli (id (Host.remui (Host.divui (constantI S_ 32 (Dev.word c)) (constantI S_ 32 1#32)) (constantI S_ 32 32#32))) (constantI S_ 32 8#32)) (constantI S_ 32 256#32))
      (muli (id (Host.remui (Host.divui (constantI S_ 32 (Dev.word c)) (constantI S_ 32 1#32)) (constantI S_ 32 32#32))) (constantI S_ 32 8#32)) (Shape.Idx.first h_S_))
    = 8 * (c.val : Int) := by decide +kernel

theorem V1_x (c : Dev nD) : V1 m c (Proc.devRef .tc main_v5) = shapeCast S1024x1024 (m ((c : Thread nD τ).loc main_arg0)) shapeCasts_S1x1024x1024_S1024x1024 := by
  unfold V1 hostOps0
  after_results_simp
  rfl
theorem V1_k (c : Dev nD) : V1 m c (Proc.devRef .tc main_v18) = heads (m ((c : Thread nD τ).loc main_arg2)) c := by
  unfold V1 hostOps0
  after_results_simp
  refine congrArg (fun s => transpose S8x1024x128 [1, 0, 2] (Host.dynamicSlice S1024x8x128 (shapeCast S1024x256x128 (m ((c : Thread nD τ).loc main_arg2))
    shapeCasts_S1x1024x256x128_S1024x256x128) s sliceFits_S1024x256x128_S1024x8x128) transposes_S1024x8x128_S8x1024x128_1_0_2) (funext fun k => ?_)
  fin_cases k
  · after_results_simp; rfl
  · refine Eq.trans ?_ (start_word c)
    after_results_simp; rfl
  · after_results_simp; rfl
theorem V1_v (c : Dev nD) : V1 m c (Proc.devRef .tc main_v19) = heads (m ((c : Thread nD τ).loc main_arg3)) c := by
  unfold V1 hostOps0
  after_results_simp
  refine congrArg (fun s => transpose S8x1024x128 [1, 0, 2] (Host.dynamicSlice S1024x8x128 (shapeCast S1024x256x128 (m ((c : Thread nD τ).loc main_arg3))
    shapeCasts_S1x1024x256x128_S1024x256x128) s sliceFits_S1024x256x128_S1024x8x128) transposes_S1024x8x128_S8x1024x128_1_0_2) (funext fun k => ?_)
  fin_cases k
  · after_results_simp; rfl
  · refine Eq.trans ?_ (start_word c)
    after_results_simp; rfl
  · after_results_simp; rfl
theorem V3_out (c : Dev nD) : V3 m (outs m) c (Proc.devRef .tc main_v21) = shapeCast S1x1024x1024 (outV (V1 m)) shapeCasts_S1024x1024_S1x1024x1024 := by
  have h : V2 m (outs m) c (Proc.devRef .tc main_v20) = outV (V1 m) := by
    rw [V2_eq, Wn_out]
  unfold V3 hostOps1
  after_results_simp
  exact congrArg (fun a => shapeCast S1x1024x1024 a shapeCasts_S1024x1024_S1x1024x1024) h

theorem starts0 : ∀ c : Dev nD, Host.clampedStart S1024x256x128 S1024x8x128 rfl (starts c) 0 = 0 := by decide +kernel
theorem starts1 : ∀ c : Dev nD, Host.clampedStart S1024x256x128 S1024x8x128 rfl (starts c) 1 = 8 * c.val := by decide +kernel
theorem starts2 : ∀ c : Dev nD, Host.clampedStart S1024x256x128 S1024x8x128 rfl (starts c) 2 = 0 := by decide +kernel

/-- A device's head of a number is the whole array's head of the device's first number and it. -/
theorem heads_at (a : Vec F S1x1024x256x128 .f32) (c : Dev nD) (h : Fin 8) (r : Fin 1024) (e : Fin 128) :
    heads a c (ix3 h r e) = a (ix4 0 r ⟨8 * c.val + h.val, by have h1 : c.val < 32 := c.isLt; omega⟩ e) := by
  pointwise [heads]
  congr 2
  · exact Fin.ext (by show _ + r.val = r.val; rw [starts0, Nat.zero_add])
  · exact Fin.ext (by show _ + h.val = _ + h.val; rw [starts1])
  · exact Fin.ext (by show _ + e.val = e.val; rw [starts2, Nat.zero_add])

end Cert.KernelIdeal.Body

end
-- ==== Proof.Attn.lean ====
/-
  The block-sparse attention of one head, on plain functions over the extended reals: what both programs compute.
-/
module

public import Idealize.ShloMosaic.Lib.Pointwise

@[expose] public section

noncomputable section

namespace Cert.Attn

open Idealize.ShloMosaic

/-- Whether a position of block b is kept for one of block a. -/
def keep (a b : ℕ) : BitVec 1 := BitVec.ofBool (decide (a = b ∨ b = 0 ∨ (a + b) % 3 = 0))

theorem keep_zero (a : ℕ) : keep a 0 = 1#1 := by
  have h : (a = 0 ∨ (0 : ℕ) = 0 ∨ (a + 0) % 3 = 0) := .inr (.inl rfl)
  unfold keep
  rw [decide_eq_true h]
  rfl

/-- The masked, scaled scores of a head, from its queries and keys. -/
def score (q k : Fin 1024 → Fin 128 → EReal) (r c : Fin 1024) : EReal :=
  Scalar.select (keep (r.val / 64) (c.val / 64)) ((∑ x, q r x * k c x) * Ideal.ofBits FTy.f32 0x3DB504F3#32) (Ideal.ofBits FTy.f32 0xCE6E6B28#32)
/-- The scores exponentiated, each row's maximum subtracted first. -/
def weight (s : Fin 1024 → Fin 1024 → EReal) (r c : Fin 1024) : EReal :=
  Ideal.exp (s r c - Finset.fold max (Ideal.ofBits FTy.f32 0xFF800000#32) (fun x => s r x) Finset.univ)
/-- Each row divided by its sum. -/
def share (w : Fin 1024 → Fin 1024 → EReal) (r c : Fin 1024) : EReal := Ideal.div (w r c) (∑ x, w r x)
/-- The head's context. -/
def head (q k v : Fin 1024 → Fin 128 → EReal) (r : Fin 1024) (e : Fin 128) : EReal := ∑ c, share (weight (score q k)) r c * v c e

end Cert.Attn

end
-- ==== Proof.KValue.lean ====
/-
  The kernel's values at an index, at the extended reals: one device's accumulator, and the result as the sum of them all.
-/
module

public import proofs.«01_k».proof.Proof.Attn
public import proofs.«01_k».proof.Proof.Compute

@[expose] public section

set_option maxRecDepth 65536

noncomputable section

namespace Cert.KernelValue

open Idealize.ShloMosaic Cert.KernelIdeal Cert.KernelIdeal.Gen Cert.Attn
open Cert.KernelIdeal.Body (maskV scoreV expV normV headV headOf inHead qCols kvAt headC ctxOf accOf headRect kvRect peer peerN rowsR landed chunk outF ownerOf inBlock)

/-! ## The mask -/

theorem rowBlk_at (r c : Fin 1024) : k0_pay5 k0_pay2 k0_pay3 k0_pay4 (ix2 r c) = BitVec.ofNat 32 (r.val / 64) := by
  pointwise [k0_pay5, k0_pay4, k0_pay3, k0_pay2]
  revert r
  decide +kernel

theorem colBlk_at (r c : Fin 1024) : k0_pay6 (ix2 r c) = BitVec.ofNat 32 (c.val / 64) := by
  pointwise [k0_pay6]
  revert c
  decide +kernel

theorem mask_at (r c : Fin 1024) : maskV (ix2 r c) = keep (r.val / 64) (c.val / 64) := by
  pointwise [maskV, k0_pay11, k0_pay10, k0_pay9, k0_pay8, k0_pay7]
  rw [rowBlk_at, colBlk_at]
  obtain ⟨a, ha⟩ : ∃ a : Fin 16, a.val = r.val / 64 := ⟨⟨r.val / 64, by omega⟩, rfl⟩
  obtain ⟨b, hb⟩ : ∃ b : Fin 16, b.val = c.val / 64 := ⟨⟨c.val / 64, by omega⟩, rfl⟩
  rw [← ha, ← hb]
  clear ha hb
  revert a b
  decide +kernel

/-! ## One head -/

section
variable (q : Vec Ideal S1024x128 .f32) (k v : Vec Ideal S1x1024x128 .f32)

theorem score_at (r c : Fin 1024) : scoreV q k (ix2 r c) = score (fun r x => q (ix2 r x)) (fun c x => k (ix3 0 c x)) r c := by
  pointwise [scoreV]
  rw [mask_at]
  rfl
theorem exp_at (s : FVec Ideal S1024x1024 .f32) (r c : Fin 1024) : expV s (ix2 r c) = weight (fun r c => s (ix2 r c)) r c := by
  pointwise [expV]
  rfl
theorem norm_at (s : FVec Ideal S1024x1024 .f32) (r c : Fin 1024) : normV s (ix2 r c) = share (fun r c => s (ix2 r c)) r c := by
  pointwise [normV]
  rfl
theorem head_at (r : Fin 1024) (e : Fin 128) :
    headV q k v (ix2 r e) = head (fun r x => q (ix2 r x)) (fun c x => k (ix3 0 c x)) (fun c x => v (ix3 0 c x)) r e := by
  pointwise [headV]
  refine Finset.sum_congr rfl fun c _ => congrArg (· * v (ix3 0 c e)) ?_
  rw [norm_at]
  congr 1
  funext r c
  rw [exp_at]
  congr 1
  funext r c
  exact score_at q k r c
end

theorem proj_at (q k : Vec Ideal S1024x1024 .f32) (r c : Fin 1024) : k0_pay1 q k (ix2 r c) = ∑ x, q (ix2 r x) * k (ix2 x c) := by
  pointwise [k0_pay1]
theorem out_at (q k : Vec Ideal S1024x1024 .f32) (r c : Fin 1024) : k0_pay25 q k (ix2 r c) = ∑ x, q (ix2 r x) * k (ix2 x c) := by
  pointwise [k0_pay25]
theorem total_at (q : Vec Ideal S32x1024 .f32) (k : Vec Ideal S31x32x1024 .f32) (r : Fin 32) (c : Fin 1024) :
    k0_pay26 q k (ix2 r c) = q (ix2 r c) + ∑ x, k (ix3 x r c) := by
  pointwise [k0_pay26]

/-! ## One device -/

/-- The column of a head's element. -/
abbrev colOf (h : Fin 8) (e : Fin 128) : Fin 1024 := ⟨128 * h.val + e.val, by omega⟩
/-- The head and the place within it of a column. -/
abbrev hOf (y : Fin 1024) : Fin 8 := ⟨y.val / 128, by omega⟩
abbrev eOf (y : Fin 1024) : Fin 128 := ⟨y.val % 128, by omega⟩

theorem headRect_at (h : Fin 8) (r : Fin 1024) (e : Fin 128) : (headRect h).emb (ix2 r e) = ix2 r (colOf h e) :=
  Cert.KernelIdeal.Body.idx2_ext (Cert.KernelIdeal.Body.head_emb0 h _) (Cert.KernelIdeal.Body.head_emb1 h _)
theorem kvRect_at (h : Fin 8) (c : Fin 1024) (e : Fin 128) : (kvRect h).emb (ix3 0 c e) = ix3 h c e := by
  funext a
  match a with
  | ⟨0, _⟩ => exact Fin.ext (by show h.val + 1 * 0 = h.val; omega)
  | ⟨1, _⟩ => exact Fin.ext (by show 0 + 1 * c.val = c.val; omega)
  | ⟨2, _⟩ => exact Fin.ext (by show 0 + 1 * e.val = e.val; omega)

/-- One device's accumulator at an index. -/
theorem acc_at (x w : Vec Ideal S1024x1024 .f32) (k v : Vec Ideal S8x1024x128 .f32) (wo : Vec Ideal S1024x1024 .f32) (r o : Fin 1024) :
    accOf x w k v wo (ix2 r o) = ∑ y : Fin 1024, head (fun r e => ∑ j, x (ix2 r j) * w (ix2 j (colOf (hOf y) e)))
      (fun c e => k (ix3 (hOf y) c e)) (fun c e => v (ix3 (hOf y) c e)) r (eOf y) * wo (ix2 y o) := by
  unfold accOf
  rw [out_at]
  refine Finset.sum_congr rfl fun y _ => congrArg (· * wo (ix2 y o)) ?_
  have hi : inHead (ix2 r y) = ix2 r (eOf y) := Cert.KernelIdeal.Body.idx2_ext rfl rfl
  show headV (qCols (k0_pay1 x w) (hOf y)) (kvAt k (hOf y)) (kvAt v (hOf y)) (inHead (ix2 r y)) = _
  rw [hi, head_at]
  congr 1
  · funext r e
    show k0_pay1 x w ((headRect (hOf y)).emb (ix2 r e)) = _
    rw [headRect_at, proj_at]
  · funext c e
    show k ((kvRect (hOf y)).emb (ix3 0 c e)) = _
    rw [kvRect_at]
  · funext c e
    show v ((kvRect (hOf y)).emb (ix3 0 c e)) = _
    rw [kvRect_at]

/-! ## All devices -/

theorem sum_devices (f : Dev nD → EReal) (d : Dev nD) : f d + ∑ j : Fin 31, f (peer d j) = ∑ e, f e := by
  rw [← Finset.add_sum_erase Finset.univ f (Finset.mem_univ d)]
  congr 1
  refine Finset.sum_bij (fun j _ => peer d j) (fun j _ => ?_) (fun i _ j _ h => ?_) (fun e he => ?_) (fun _ _ => rfl)
  · exact Finset.mem_erase.mpr ⟨Cert.KernelIdeal.Body.peer_ne d j, Finset.mem_univ _⟩
  · exact Cert.KernelIdeal.Body.peer_inj d h
  · have hne : e.val ≠ d.val := fun h => (Finset.mem_erase.mp he).1 (Fin.ext h)
    have he' : e.val < 32 := e.isLt
    have hd' : d.val < 32 := d.isLt
    refine ⟨⟨(e.val + 31 - d.val) % 32, by omega⟩, Finset.mem_univ _, Fin.ext ?_⟩
    rw [Cert.KernelIdeal.Body.peer_val]
    show (d.val + 1 + (e.val + 31 - d.val) % 32) % 32 = e.val
    omega

/-- The result at an index is the sum of every device's accumulator there. -/
theorem result_at (A : Dev nD → Vec Ideal S1024x1024 .f32) (r o : Fin 1024) : outF A (ix2 r o) = ∑ d, A d (ix2 r o) := by
  obtain ⟨a, b, hab⟩ : ∃ a b, inBlock (ix2 r o) = ix2 a b := ⟨_, _, eq_ix2 _⟩
  have hx : (rowsR (ownerOf (ix2 r o))).emb (ix2 a b) = ix2 r o := by rw [← hab, Cert.KernelIdeal.Body.emb_inBlock]
  show chunk A (ownerOf (ix2 r o)) (inBlock (ix2 r o)) = _
  rw [hab]
  unfold chunk
  rw [total_at, ← sum_devices (fun d => A d (ix2 r o)) (ownerOf (ix2 r o)), hx]
  refine congrArg (A (ownerOf (ix2 r o)) (ix2 r o) + ·) (Finset.sum_congr rfl fun j _ => ?_)
  show A (peer (ownerOf (ix2 r o)) ⟨j.val, _⟩) ((rowsR (ownerOf (ix2 r o))).emb (Cert.KernelIdeal.Body.ixB ⟨a.val, _⟩ ⟨b.val, _⟩)) = _
  refine congrArg (A (peer (ownerOf (ix2 r o)) j)) (Eq.trans (congrArg _ ?_) hx)
  exact Cert.KernelIdeal.Body.idx2_ext rfl rfl

end Cert.KernelValue

end
-- ==== Proof.Parts.lean ====
/-
  The reference's result, its operations grouped into the steps of the problem: mask, scores, weights, context, output.
-/
module

public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.TcCoe

variable {F : FTy → Type} [FloatOps F]

/-- The positions' blocks of 64: the quotient, one less where signs differ and the remainder is not zero. -/
def blocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The blocks as a column and as a row. -/
def colB : IVec S1024x1 32 := broadcastInDim S1024x1 ![0] bcast_S1024_S1024x1_0 blocks
def rowB : IVec S1x1024 32 := broadcastInDim S1x1024 ![1] bcast_S1024_S1x1024_1 blocks
/-- Their sums. -/
def sums : IVec S1024x1024 32 :=
  addi (broadcastInDim S1024x1024 ![0, 1] bcast_S1024x1_S1024x1024_0_1 colB) (broadcastInDim S1024x1024 ![0, 1] bcast_S1x1024_S1024x1024_0_1 rowB)
/-- The divisor, as the program selects it. -/
def three : IVec S_ 32 := select (cmpi .eq (id (constantI S_ 32 3#32)) (constantI S_ 32 0#32)) (constantI S_ 32 1#32) (id (constantI S_ 32 3#32))
/-- The sums' remainders by three, with the sign of the divisor. -/
def rest : IVec S1024x1024 32 := Host.remsi sums (broadcastInDim S1024x1024 ![] bcast_S_S1024x1024 three)
def modThree : IVec S1024x1024 32 :=
  select (andi (cmpi .ne (cmpi .slt rest (broadcastInDim S1024x1024 ![] bcast_S_S1024x1024 (constantI S_ 32 0#32)))
        (broadcastInDim S1024x1024 ![] bcast_S_S1024x1024 (cmpi .slt three (constantI S_ 32 0#32))))
      (cmpi .ne rest (broadcastInDim S1024x1024 ![] bcast_S_S1024x1024 (constantI S_ 32 0#32))))
    (addi rest (broadcastInDim S1024x1024 ![] bcast_S_S1024x1024 three)) rest
/-- The mask. -/
def maskR : IVec S1024x1024 1 :=
  ori (ori (cmpi .eq (broadcastInDim S1024x1024 ![0, 1] bcast_S1024x1_S1024x1024_0_1 colB) (broadcastInDim S1024x1024 ![0, 1] bcast_S1x1024_S1024x1024_0_1 rowB))
      (broadcastInDim S1024x1024 ![0, 1] bcast_S1x1024_S1024x1024_0_1 (cmpi .eq rowB (broadcastInDim S1x1024 ![] bcast_S_S1x1024 (constantI S_ 32 0#32)))))
    (cmpi .eq modThree (broadcastInDim S1024x1024 ![] bcast_S_S1024x1024 (constantI S_ 32 0#32)))
/-- Which rows keep anything. -/
def rowKeep : IVec S1024 1 := Host.reduce IntOp.ori maskR (constantI S_ 1 0#1) reducesTo_S1024x1024_S1024_d1 h_S_

/-- The queries. -/
def queriesR (x : FVec F S1x1024x1024 .f32) (w : FVec F S1024x32768 .f32) : FVec F S1x1024x256x128 .f32 :=
  shapeCast _ (Host.dotGeneral dot_S1x1024x1024_S1024x32768_S1x1024x32768_2_0_01_1_n_n none x w) shapeCasts_S1x1024x32768_S1x1024x256x128
/-- The masked, scaled scores. -/
def scoresR (q k : FVec F S1x1024x256x128 .f32) : FVec F S1x256x1024x1024 .f32 :=
  select (broadcastInDim S1x256x1024x1024 ![0, 1, 2, 3] bcast_S1x1x1024x1024_S1x256x1024x1024_0_1_2_3
      (broadcastInDim S1x1x1024x1024 ![2, 3] bcast_S1024x1024_S1x1x1024x1024_2_3 maskR))
    (mulf (Host.dotGeneral dot_S1x1024x256x128_S1x1024x256x128_S1x256x1024x1024_3_3_1_1_02_02 none q k)
      (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))
/-- The scores exponentiated, each row's maximum subtracted first. -/
def expR (s : FVec F S1x256x1024x1024 .f32) : FVec F S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2
      (Host.reduce FloatOps.maximumf s (constant S_ .f32 0xFF800000#32) reducesTo_S1x256x1024x1024_S1x256x1024_d3 h_S_))))
/-- Each row divided by its sum, and zero in a row that keeps nothing. -/
def normR (e : FVec F S1x256x1024x1024 .f32) : FVec F S1x256x1024x1024 .f32 :=
  select (broadcastInDim S1x256x1024x1024 ![0, 1, 2, 3] bcast_S1x1x1024x1_S1x256x1024x1024_0_1_2_3
      (broadcastInDim S1x1x1024x1 ![2] bcast_S1024_S1x1x1024x1_2 rowKeep))
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3
          (broadcastInDim S1x1x1024x1 ![2] bcast_S1024_S1x1x1024x1_2 rowKeep))
        (broadcastInDim S1x256x1024x1 ![0, 1, 2] bcast_S1x256x1024_S1x256x1024x1_0_1_2
          (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))
/-- The context, the heads side by side. -/
def ctxR (v : FVec F S1x1024x256x128 .f32) (w : FVec F S1x256x1024x1024 .f32) : FVec F S1x1024x32768 .f32 :=
  shapeCast _ (transpose S1x1024x256x128 [0, 3, 1, 2] (Host.dotGeneral dot_S1x1024x256x128_S1x256x1024x1024_S1x256x128x1024_1_3_3_2_02_01 none v w)
    transposes_S1x256x128x1024_S1x1024x256x128_0_3_1_2) shapeCasts_S1x1024x256x128_S1x1024x32768
/-- The result. -/
def resultR (x : FVec F S1x1024x1024 .f32) (w : FVec F S1024x32768 .f32) (k v : FVec F S1x1024x256x128 .f32) (wo : FVec F S32768x1024 .f32) :
    FVec F S1x1024x1024 .f32 :=
  Host.dotGeneral dot_S1x1024x32768_S32768x1024_S1x1024x1024_2_0_01_1_n_n none (ctxR v (normR (expR (scoresR (queriesR x w) k)))) wo

theorem out_eq (m : (ℓ : Loc nD τ sig) → Buf (Elt F) ℓ) (c : Dev nD) :
    res_out0 m c = resultR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_out0 res_main_v44 resultR
  rfl

end Cert.ReferenceIdeal.Value

end
-- ==== Proof.RValue.lean ====
/-
  The reference's result at an index, at the extended reals.
-/
module

public import proofs.«01_k».proof.Proof.Attn
public import proofs.«01_k».proof.Proof.Parts
public import Idealize.ShloMosaic.Lib.Routing.OpsOrder

@[expose] public section

set_option maxRecDepth 65536

noncomputable section

namespace Cert.ReferenceIdeal.Value

open Cert.ReferenceIdeal Cert.ReferenceIdeal.Gen Idealize.ShloMosaic Cert.Attn

/-! ## The mask -/

theorem blocks_at (n : Fin 1024) : blocks (ix1 n) = BitVec.ofNat 32 (n.val / 64) := by
  pointwise [blocks]
  revert n
  decide +kernel

theorem colB_at (r : Fin 1024) : colB (ix2 r 0) = BitVec.ofNat 32 (r.val / 64) := by
  rw [← blocks_at]
  pointwise [colB]
theorem rowB_at (c : Fin 1024) : rowB (ix2 0 c) = BitVec.ofNat 32 (c.val / 64) := by
  rw [← blocks_at]
  pointwise [rowB]

theorem maskR_at (r c : Fin 1024) : maskR (ix2 r c) = keep (r.val / 64) (c.val / 64) := by
  pointwise [maskR, modThree, rest, sums, three]
  rw [colB_at, rowB_at]
  obtain ⟨a, ha⟩ : ∃ a : Fin 16, a.val = r.val / 64 := ⟨⟨r.val / 64, by omega⟩, rfl⟩
  obtain ⟨b, hb⟩ : ∃ b : Fin 16, b.val = c.val / 64 := ⟨⟨c.val / 64, by omega⟩, rfl⟩
  rw [← ha, ← hb]
  clear ha hb
  revert a b
  decide +kernel

theorem rowKeep_at (r : Fin 1024) : rowKeep (ix1 r) = 1#1 := by
  pointwise [rowKeep]
  rw [Routing.fold_ori]
  exact ⟨0, Finset.mem_univ _, (maskR_at r 0).trans (keep_zero _)⟩

/-! ## One head -/

theorem queries_at (x : FVec Ideal S1x1024x1024 .f32) (w : FVec Ideal S1024x32768 .f32) (r : Fin 1024) (h : Fin 256) (e : Fin 128) :
    queriesR x w (ix4 0 r h e) = ∑ j, x (ix3 0 r j) * w (ix2 j ⟨128 * h.val + e.val, by omega⟩) := by
  pointwise [queriesR]
  refine Finset.sum_congr rfl fun j _ => congrArg (fun y => x (ix3 0 r j) * w (ix2 j y)) (Fin.ext ?_)
  show h.val * 128 + e.val = 128 * h.val + e.val
  omega
theorem scores_at (q k : FVec Ideal S1x1024x256x128 .f32) (h : Fin 256) (r c : Fin 1024) :
    scoresR q k (ix4 0 h r c) = score (fun r x => q (ix4 0 r h x)) (fun c x => k (ix4 0 c h x)) r c := by
  pointwise [scoresR]
  rw [maskR_at]
  rfl
theorem exp_at (s : FVec Ideal S1x256x1024x1024 .f32) (h : Fin 256) (r c : Fin 1024) :
    expR s (ix4 0 h r c) = weight (fun r c => s (ix4 0 h r c)) r c := by
  pointwise [expR]
  rfl
theorem norm_at (s : FVec Ideal S1x256x1024x1024 .f32) (h : Fin 256) (r c : Fin 1024) :
    normR s (ix4 0 h r c) = share (fun r c => s (ix4 0 h r c)) r c := by
  pointwise [normR]
  rw [rowKeep_at]
  rfl
theorem ctx_at (v : FVec Ideal S1x1024x256x128 .f32) (w : FVec Ideal S1x256x1024x1024 .f32) (r : Fin 1024) (y : Fin 32768) :
    ctxR v w (ix3 0 r y) = ∑ c, w (ix4 0 ⟨y.val / 128, by omega⟩ r c) * v (ix4 0 c ⟨y.val / 128, by omega⟩ ⟨y.val % 128, by omega⟩) := by
  pointwise [ctxR]
  exact Finset.sum_congr rfl fun _ _ => mul_comm _ _
theorem last_at (w : FVec Ideal S1x1024x32768 .f32) (wo : FVec Ideal S32768x1024 .f32) (r o : Fin 1024) :
    Host.dotGeneral dot_S1x1024x32768_S32768x1024_S1x1024x1024_2_0_01_1_n_n none w wo (ix3 0 r o) = ∑ y, w (ix3 0 r y) * wo (ix2 y o) := by
  pointwise []

/-! ## All heads -/

/-- The head and the place within it of a column. -/
abbrev hOf (y : Fin 32768) : Fin 256 := ⟨y.val / 128, by omega⟩
abbrev eOf (y : Fin 32768) : Fin 128 := ⟨y.val % 128, by omega⟩
/-- The column of a head's element. -/
abbrev colOf (h : Fin 256) (e : Fin 128) : Fin 32768 := ⟨128 * h.val + e.val, by omega⟩

theorem result_at (x : FVec Ideal S1x1024x1024 .f32) (w : FVec Ideal S1024x32768 .f32) (k v : FVec Ideal S1x1024x256x128 .f32)
    (wo : FVec Ideal S32768x1024 .f32) (r o : Fin 1024) :
    resultR x w k v wo (ix3 0 r o) = ∑ y : Fin 32768, head (fun r e => ∑ j, x (ix3 0 r j) * w (ix2 j (colOf (hOf y) e)))
      (fun c e => k (ix4 0 c (hOf y) e)) (fun c e => v (ix4 0 c (hOf y) e)) r (eOf y) * wo (ix2 y o) := by
  unfold resultR
  rw [last_at]
  refine Finset.sum_congr rfl fun y _ => congrArg (· * wo (ix2 y o)) ?_
  rw [ctx_at]
  refine Finset.sum_congr rfl fun c _ => congrArg (· * v (ix4 0 c (hOf y) (eOf y))) ?_
  rw [norm_at]
  congr 1
  funext r c
  rw [exp_at]
  congr 1
  funext r c
  rw [scores_at]
  congr 1
  funext r e
  exact queries_at x w r (hOf y) e

end Cert.ReferenceIdeal.Value

end
-- ==== Proof.Value.lean ====
/-
  The value claim: from memories that hold the parts of the same arrays, the kernel's result is the reference's.
-/
module

public import proofs.«01_k».proof.Defs
public import proofs.«01_k».proof.Proof.Host
public import proofs.«01_k».proof.Proof.KValue
public import proofs.«01_k».proof.Proof.RValue

@[expose] public section

set_option maxRecDepth 65536

noncomputable section

namespace Cert.Proof

open Idealize.ShloMosaic Idealize.SL.Sem Cert.Attn
open Cert.KernelIdeal (S1024x1024 S1x1024x1024 S8x1024x128 S1x1024x256x128 nD)
open Cert.KernelIdeal.Body (accOf heads outF)
open Cert.ReferenceIdeal.Value (resultR)

/-- The block of the columns of the query weights that a device holds, and of the rows of the output weights. -/
abbrev colsOf (w : Vec Ideal ⟨2, ![1024, 32768]⟩ .f32) (d : Dev nD) : Vec Ideal S1024x1024 .f32 := Layout.block ⟨2, ![1024, 1024]⟩ ⟨2, ![1024, 32768]⟩ 1 32 d w
abbrev rowsOf (w : Vec Ideal ⟨2, ![32768, 1024]⟩ .f32) (d : Dev nD) : Vec Ideal S1024x1024 .f32 := Layout.block ⟨2, ![1024, 1024]⟩ ⟨2, ![32768, 1024]⟩ 0 32 d w

theorem colsOf_at (w : Vec Ideal ⟨2, ![1024, 32768]⟩ .f32) (d : Dev nD) (j y : Fin 1024) :
    colsOf w d (ix2 j y) = w (ix2 j ⟨d.val * 1024 + y.val, by have h : d.val < 32 := d.isLt; omega⟩) :=
  congrArg w (Cert.KernelIdeal.Body.idx2_ext rfl rfl)
theorem rowsOf_at (w : Vec Ideal ⟨2, ![32768, 1024]⟩ .f32) (d : Dev nD) (y o : Fin 1024) :
    rowsOf w d (ix2 y o) = w (ix2 ⟨d.val * 1024 + y.val, by have h : d.val < 32 := d.isLt; omega⟩ o) :=
  congrArg w (Cert.KernelIdeal.Body.idx2_ext rfl rfl)

theorem drop_at (x : Vec Ideal S1x1024x1024 .f32) (r j : Fin 1024) :
    shapeCast S1024x1024 x Cert.KernelIdeal.Gen.shapeCasts_S1x1024x1024_S1024x1024 (ix2 r j) = x (ix3 0 r j) := by
  pointwise []
theorem add_at (x : Vec Ideal S1024x1024 .f32) (r j : Fin 1024) :
    shapeCast S1x1024x1024 x Cert.KernelIdeal.Gen.shapeCasts_S1024x1024_S1x1024x1024 (ix3 0 r j) = x (ix2 r j) := by
  pointwise []

/-- Every device's accumulator, summed, is the reference's result: the heads of device d are those from 8 · d on. -/
theorem sum_eq (x : Vec Ideal S1x1024x1024 .f32) (w : Vec Ideal ⟨2, ![1024, 32768]⟩ .f32) (k v : Vec Ideal S1x1024x256x128 .f32)
    (wo : Vec Ideal ⟨2, ![32768, 1024]⟩ .f32) (r o : Fin 1024) :
    (∑ d : Dev nD, accOf (shapeCast S1024x1024 x Cert.KernelIdeal.Gen.shapeCasts_S1x1024x1024_S1024x1024) (colsOf w d) (heads k d) (heads v d) (rowsOf wo d) (ix2 r o))
      = resultR (F := Ideal) x w k v wo (ix3 0 r o) := by
  rw [Cert.ReferenceIdeal.Value.result_at, Fin.sum_univ_tiles 32 1024 rfl]
  refine Finset.sum_congr rfl fun d _ => ?_
  rw [Cert.KernelValue.acc_at]
  refine Finset.sum_congr rfl fun y _ => ?_
  have hd : d.val < 32 := d.isLt
  have hh : (⟨8 * d.val + y.val / 128, by omega⟩ : Fin 256) = ⟨(d.val * 1024 + y.val) / 128, by omega⟩ := Fin.ext (by show 8 * d.val + y.val / 128 = (d.val * 1024 + y.val) / 128; omega)
  have he : (⟨y.val % 128, by omega⟩ : Fin 128) = ⟨(d.val * 1024 + y.val) % 128, by omega⟩ := Fin.ext (by show y.val % 128 = (d.val * 1024 + y.val) % 128; omega)
  rw [rowsOf_at]
  refine congrArg₂ (· * ·) ?_ rfl
  refine Eq.trans ?_ (congrArg (head _ _ _ r) he)
  have hq : (fun (r : Fin 1024) (e : Fin 128) => ∑ j, shapeCast S1024x1024 x Cert.KernelIdeal.Gen.shapeCasts_S1x1024x1024_S1024x1024 (ix2 r j)
        * colsOf w d (ix2 j (Cert.KernelValue.colOf (Cert.KernelValue.hOf y) e)))
      = fun r e => ∑ j, x (ix3 0 r j) * w (ix2 j (Cert.ReferenceIdeal.Value.colOf ⟨(d.val * 1024 + y.val) / 128, by omega⟩ e)) := by
    funext r e
    refine Finset.sum_congr rfl fun j _ => ?_
    rw [drop_at, colsOf_at]
    refine congrArg (fun c => x (ix3 0 r j) * w (ix2 j c)) (Fin.ext ?_)
    show d.val * 1024 + (128 * (y.val / 128) + e.val) = 128 * ((d.val * 1024 + y.val) / 128) + e.val
    omega
  have hkv (a : Vec Ideal S1x1024x256x128 .f32) : (fun (c : Fin 1024) (e : Fin 128) => heads a d (ix3 (Cert.KernelValue.hOf y) c e))
      = fun c e => a (ix4 0 c ⟨(d.val * 1024 + y.val) / 128, by omega⟩ e) := by
    funext c e
    rw [Cert.KernelIdeal.Body.heads_at]
    exact congrArg (fun h => a (ix4 0 c h e)) hh
  rw [hq, hkv, hkv]

/-- An index of an array whose first axis has one place is its other two places. -/
theorem first_zero (i : S1x1024x1024.Idx) : ∃ r o : Fin 1024, i = ix3 0 r o := by
  refine ⟨⟨(i 1).val, (i 1).isLt⟩, ⟨(i 2).val, (i 2).isLt⟩, ?_⟩
  funext a
  match a with
  | ⟨0, _⟩ => exact Fin.ext (by have h : (i 0).val < 1 := (i 0).isLt; show (i 0).val = 0; omega)
  | ⟨1, _⟩ => rfl
  | ⟨2, _⟩ => rfl

open Cert.KernelIdeal.Body (Av outV outs V1_x V1_k V1_v V3_out) in
open Cert.KernelIdeal.Gen (V0 V1 V3 V1_of) in
/-- What a device's result holds at the end, from memories that hold the parts of the arrays. -/
theorem value_eq (m : (ℓ : Loc Cert.KernelIdeal.nD Cert.KernelIdeal.τ Cert.KernelIdeal.sig) → Buf (Elt Ideal) ℓ)
    (x : Vec Ideal S1x1024x1024 .f32) (w : Vec Ideal ⟨2, ![1024, 32768]⟩ .f32) (k v : Vec Ideal S1x1024x256x128 .f32) (wo : Vec Ideal ⟨2, ![32768, 1024]⟩ .f32)
    (hm : ∀ c : Dev nD, m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = colsOf w c
      ∧ m ((c.tc : Thread Cert.KernelIdeal.nD Cert.KernelIdeal.τ).loc Cert.KernelIdeal.main_arg2) = k
      ∧ m ((c.tc : Thread Cert.KernelIdeal.nD Cert.KernelIdeal.τ).loc Cert.KernelIdeal.main_arg3) = v
      ∧ m ((c.tc : Thread Cert.KernelIdeal.nD Cert.KernelIdeal.τ).loc Cert.KernelIdeal.main_arg4) = rowsOf wo c)
    (c : Dev nD) : V3 m (outs m) c (Proc.devRef .tc Cert.KernelIdeal.main_v21) = resultR (F := Ideal) x w k v wo := by
  have hA (d : Dev nD) : Av (V1 m) d = accOf (shapeCast S1024x1024 x Cert.KernelIdeal.Gen.shapeCasts_S1x1024x1024_S1024x1024) (colsOf w d) (heads k d) (heads v d) (rowsOf wo d) := by
    obtain ⟨h0, h1, h2, h3, h4⟩ := hm d
    have e1 : V1 m d (Proc.devRef .tc Cert.KernelIdeal.main_arg1) = colsOf w d := (V1_of m d Cert.KernelIdeal.main_arg1 (by decide)).trans h1
    have e4 : V1 m d (Proc.devRef .tc Cert.KernelIdeal.main_arg4) = rowsOf wo d := (V1_of m d Cert.KernelIdeal.main_arg4 (by decide)).trans h4
    unfold Av
    rw [V1_x, V1_k, V1_v, e1, e4]
    refine (congrArg (fun a => accOf (shapeCast S1024x1024 a _) _ _ _ _) h0).trans ?_
    exact congrArg₂ (fun a b => accOf _ _ (heads a d) (heads b d) _) h2 h3
  rw [V3_out]
  funext i
  obtain ⟨r, o, rfl⟩ := first_zero i
  refine (add_at (outV (V1 m)) _ _).trans ?_
  unfold outV
  rw [Cert.KernelValue.result_at, ← sum_eq]
  exact Finset.sum_congr rfl fun d _ => congrFun (hA d) _

/-- From memories that hold the parts of the same arrays, both programs run, and every device's result is the reference's. -/
theorem algebraic : Cert.algebraic_KernelIdeal_ReferenceIdeal := by
  intro m g m' g' _ hm
  refine ⟨Cert.ReferenceIdeal.Value.res_main_v44 m' 0, ?_, ?_⟩
  · refine (θ_run _ _ _).mono (fun r h c => ?_) (Cert.KernelIdeal.Body.run_main m g)
    obtain ⟨h0, h1, h2, h3, h4, h5⟩ := h.1 c
    refine ⟨h5.trans ?_, h0, h1, h2, h3, h4⟩
    exact (value_eq m _ _ _ _ _ hm c).trans (Cert.ReferenceIdeal.Value.out_eq m' 0).symm
  · exact (θ_run _ _ _).mono (fun r h => h 0) (Cert.ReferenceIdeal.Value.run m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_kernelIdeal, frame_reference, trivial, algebraic⟩

end Cert.Proof

end
